-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v70_0)) (v1 : (c : Dev Cert.KernelIdeal.nD) → Buf (Elt Ideal) ((c.tc : Thread Cert.KernelIdeal.nD Cert.KernelIdeal.τ).loc Cert.KernelIdeal.main_v70_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70_0) = v0 c
          ∧ r.2.mem ((c.tc : Thread Cert.KernelIdeal.nD Cert.KernelIdeal.τ).loc Cert.KernelIdeal.main_v70_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_v119_8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v11_0)) (v1 : (c : Dev Cert.Kernel2Ideal.nD) → Buf (Elt Ideal) ((c.tc : Thread Cert.Kernel2Ideal.nD Cert.Kernel2Ideal.τ).loc Cert.Kernel2Ideal.main_v11_1)) (v2 : (c : Dev Cert.Kernel2Ideal.nD) → Buf (Elt Ideal) ((c.tc : Thread Cert.Kernel2Ideal.nD Cert.Kernel2Ideal.τ).loc Cert.Kernel2Ideal.main_v11_2)) (v3 : (c : Dev Cert.Kernel2Ideal.nD) → Buf (Elt Ideal) ((c.tc : Thread Cert.Kernel2Ideal.nD Cert.Kernel2Ideal.τ).loc Cert.Kernel2Ideal.main_v11_3)) (v4 : (c : Dev Cert.Kernel2Ideal.nD) → Buf (Elt Ideal) ((c.tc : Thread Cert.Kernel2Ideal.nD Cert.Kernel2Ideal.τ).loc Cert.Kernel2Ideal.main_v11_4)) (v5 : (c : Dev Cert.Kernel2Ideal.nD) → Buf (Elt Ideal) ((c.tc : Thread Cert.Kernel2Ideal.nD Cert.Kernel2Ideal.τ).loc Cert.Kernel2Ideal.main_v11_5)) (v6 : (c : Dev Cert.Kernel2Ideal.nD) → Buf (Elt Ideal) ((c.tc : Thread Cert.Kernel2Ideal.nD Cert.Kernel2Ideal.τ).loc Cert.Kernel2Ideal.main_v11_6)) (v7 : (c : Dev Cert.Kernel2Ideal.nD) → Buf (Elt Ideal) ((c.tc : Thread Cert.Kernel2Ideal.nD Cert.Kernel2Ideal.τ).loc Cert.Kernel2Ideal.main_v11_7)) (v8 : (c : Dev Cert.Kernel2Ideal.nD) → Buf (Elt Ideal) ((c.tc : Thread Cert.Kernel2Ideal.nD Cert.Kernel2Ideal.τ).loc Cert.Kernel2Ideal.main_v11_8)) (v9 : (c : Dev Cert.Kernel2Ideal.nD) → Buf (Elt Ideal) ((c.tc : Thread Cert.Kernel2Ideal.nD Cert.Kernel2Ideal.τ).loc Cert.Kernel2Ideal.main_v11_9)) (v10 : (c : Dev Cert.Kernel2Ideal.nD) → Buf (Elt Ideal) ((c.tc : Thread Cert.Kernel2Ideal.nD Cert.Kernel2Ideal.τ).loc Cert.Kernel2Ideal.main_v11_10)) (v11 : (c : Dev Cert.Kernel2Ideal.nD) → Buf (Elt Ideal) ((c.tc : Thread Cert.Kernel2Ideal.nD Cert.Kernel2Ideal.τ).loc Cert.Kernel2Ideal.main_v11_11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11_0) = v0 c
          ∧ r.2.mem ((c.tc : Thread Cert.Kernel2Ideal.nD Cert.Kernel2Ideal.τ).loc Cert.Kernel2Ideal.main_v11_1) = v1 c
          ∧ r.2.mem ((c.tc : Thread Cert.Kernel2Ideal.nD Cert.Kernel2Ideal.τ).loc Cert.Kernel2Ideal.main_v11_2) = v2 c
          ∧ r.2.mem ((c.tc : Thread Cert.Kernel2Ideal.nD Cert.Kernel2Ideal.τ).loc Cert.Kernel2Ideal.main_v11_3) = v3 c
          ∧ r.2.mem ((c.tc : Thread Cert.Kernel2Ideal.nD Cert.Kernel2Ideal.τ).loc Cert.Kernel2Ideal.main_v11_4) = v4 c
          ∧ r.2.mem ((c.tc : Thread Cert.Kernel2Ideal.nD Cert.Kernel2Ideal.τ).loc Cert.Kernel2Ideal.main_v11_5) = v5 c
          ∧ r.2.mem ((c.tc : Thread Cert.Kernel2Ideal.nD Cert.Kernel2Ideal.τ).loc Cert.Kernel2Ideal.main_v11_6) = v6 c
          ∧ r.2.mem ((c.tc : Thread Cert.Kernel2Ideal.nD Cert.Kernel2Ideal.τ).loc Cert.Kernel2Ideal.main_v11_7) = v7 c
          ∧ r.2.mem ((c.tc : Thread Cert.Kernel2Ideal.nD Cert.Kernel2Ideal.τ).loc Cert.Kernel2Ideal.main_v11_8) = v8 c
          ∧ r.2.mem ((c.tc : Thread Cert.Kernel2Ideal.nD Cert.Kernel2Ideal.τ).loc Cert.Kernel2Ideal.main_v11_9) = v9 c
          ∧ r.2.mem ((c.tc : Thread Cert.Kernel2Ideal.nD Cert.Kernel2Ideal.τ).loc Cert.Kernel2Ideal.main_v11_10) = v10 c
          ∧ r.2.mem ((c.tc : Thread Cert.Kernel2Ideal.nD Cert.Kernel2Ideal.τ).loc Cert.Kernel2Ideal.main_v11_11) = v11 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_v35) = v1 c
          ∧ r.2.mem ((c.tc : Thread Cert.Reference2Ideal.nD Cert.Reference2Ideal.τ).loc Cert.Reference2Ideal.main_v36) = v2 c
          ∧ r.2.mem ((c.tc : Thread Cert.Reference2Ideal.nD Cert.Reference2Ideal.τ).loc Cert.Reference2Ideal.main_v37) = v3 c
          ∧ r.2.mem ((c.tc : Thread Cert.Reference2Ideal.nD Cert.Reference2Ideal.τ).loc Cert.Reference2Ideal.main_v38) = v4 c
          ∧ r.2.mem ((c.tc : Thread Cert.Reference2Ideal.nD Cert.Reference2Ideal.τ).loc Cert.Reference2Ideal.main_v39) = v5 c
          ∧ r.2.mem ((c.tc : Thread Cert.Reference2Ideal.nD Cert.Reference2Ideal.τ).loc Cert.Reference2Ideal.main_v43) = v6 c
          ∧ r.2.mem ((c.tc : Thread Cert.Reference2Ideal.nD Cert.Reference2Ideal.τ).loc Cert.Reference2Ideal.main_v45) = v7 c
          ∧ r.2.mem ((c.tc : Thread Cert.Reference2Ideal.nD Cert.Reference2Ideal.τ).loc Cert.Reference2Ideal.main_v48) = v8 c
          ∧ r.2.mem ((c.tc : Thread Cert.Reference2Ideal.nD Cert.Reference2Ideal.τ).loc Cert.Reference2Ideal.main_v50) = v9 c
          ∧ r.2.mem ((c.tc : Thread Cert.Reference2Ideal.nD Cert.Reference2Ideal.τ).loc Cert.Reference2Ideal.main_v52) = v10 c
          ∧ r.2.mem ((c.tc : Thread Cert.Reference2Ideal.nD Cert.Reference2Ideal.τ).loc Cert.Reference2Ideal.main_v55) = v11 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S4x4096x1536 : Shape := ⟨3, ![4, 4096, 1536]⟩
abbrev S4x6x64x64 : Shape := ⟨4, ![4, 6, 64, 64]⟩
abbrev S384 : Shape := ⟨1, ![384]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S6 : Shape := ⟨1, ![6]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S6x1x1 : Shape := ⟨3, ![6, 1, 1]⟩
abbrev S6x128x128 : Shape := ⟨3, ![6, 128, 128]⟩
abbrev S1x6 : Shape := ⟨2, ![1, 6]⟩
abbrev S128x6 : Shape := ⟨2, ![128, 6]⟩
abbrev S128x6x64 : Shape := ⟨3, ![128, 6, 64]⟩
abbrev S128x384 : Shape := ⟨2, ![128, 384]⟩
abbrev S6x64x64 : Shape := ⟨3, ![6, 64, 64]⟩
abbrev S1x384 : Shape := ⟨2, ![1, 384]⟩
abbrev S4x4096x384 : Shape := ⟨3, ![4, 4096, 384]⟩
abbrev S1x128x1536 : Shape := ⟨3, ![1, 128, 1536]⟩
abbrev S1x6x64x64 : Shape := ⟨4, ![1, 6, 64, 64]⟩
abbrev S1x128x384 : Shape := ⟨3, ![1, 128, 384]⟩
abbrev S384x128 : Shape := ⟨2, ![384, 128]⟩
abbrev S128x64 : Shape := ⟨2, ![128, 64]⟩
abbrev S1x64x64 : Shape := ⟨3, ![1, 64, 64]⟩
abbrev S64x64 : Shape := ⟨2, ![64, 64]⟩
abbrev S64x128 : Shape := ⟨2, ![64, 128]⟩
abbrev S1x128x64 : Shape := ⟨3, ![1, 128, 64]⟩

abbrev nBuf : Space → Nat
  | .hbm => 88
  | .vmem => 18
  | .smem => 0
  | _ => 0

abbrev bufTy : (tb : Table) → Fin (tcTables nBuf tb) → BufTy
  | .hbm, ⟨0, _⟩ => ⟨S4x4096x1536, .f32⟩
  | .hbm, ⟨1, _⟩ => ⟨S4x6x64x64, .f32⟩
  | .hbm, ⟨2, _⟩ => ⟨S384, .f32⟩
  | .hbm, ⟨3, _⟩ => ⟨S4096, .i32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S4096, .f32⟩
  | .hbm, ⟨13, _⟩ => ⟨S4096x1, .f32⟩
  | .hbm, ⟨14, _⟩ => ⟨S1x32, .f32⟩
  | .hbm, ⟨15, _⟩ => ⟨S4096x32, .f32⟩
  | .hbm, ⟨16, _⟩ => ⟨S4096x32, .f32⟩
  | .hbm, ⟨17, _⟩ => ⟨S4096x32, .f32⟩
  | .hbm, ⟨18, _⟩ => ⟨S4096x32, .f32⟩
  | .hbm, ⟨19, _⟩ => ⟨S4096x32, .f32⟩
  | .hbm, ⟨20, _⟩ => ⟨S4096x128, .f32⟩
  | .hbm, ⟨21, _⟩ => ⟨S4096x32, .f32⟩
  | .hbm, ⟨22, _⟩ => ⟨S4096x128, .f32⟩
  | .hbm, ⟨23, _⟩ => ⟨S6, .f32⟩
  | .hbm, ⟨24, _⟩ => ⟨S_, .f32⟩
  | .hbm, ⟨25, _⟩ => ⟨S6, .f32⟩
  | .hbm, ⟨26, _⟩ => ⟨S6, .f32⟩
  | .hbm, ⟨27, _⟩ => ⟨S_, .f32⟩
  | .hbm, ⟨28, _⟩ => ⟨S6, .f32⟩
  | .hbm, ⟨29, _⟩ => ⟨S6, .f32⟩
  | .hbm, ⟨30, _⟩ => ⟨S6, .f32⟩
  | .hbm, ⟨31, _⟩ => ⟨S6, .f32⟩
  | .hbm, ⟨32, _⟩ => ⟨S6, .f32⟩
  | .hbm, ⟨33, _⟩ => ⟨S128, .f32⟩
  | .hbm, ⟨34, _⟩ => ⟨S128x1, .f32⟩
  | .hbm, ⟨35, _⟩ => ⟨S1x128, .f32⟩
  | .hbm, ⟨36, _⟩ => ⟨S128x128, .f32⟩
  | .hbm, ⟨37, _⟩ => ⟨S128x128, .f32⟩
  | .hbm, ⟨38, _⟩ => ⟨S128x128, .f32⟩
  | .hbm, ⟨39, _⟩ => ⟨S1x128x128, .f32⟩
  | .hbm, ⟨40, _⟩ => ⟨S_, .f32⟩
  | .hbm, ⟨41, _⟩ => ⟨S1x128x128, .f32⟩
  | .hbm, ⟨42, _⟩ => ⟨S1x128x128, .i1⟩
  | .hbm, ⟨43, _⟩ => ⟨S6x1x1, .f32⟩
  | .hbm, ⟨44, _⟩ => ⟨S_, .f32⟩
  | .hbm, ⟨45, _⟩ => ⟨S128x128, .f32⟩
  | .hbm, ⟨46, _⟩ => ⟨S128x128, .f32⟩
  | .hbm, ⟨47, _⟩ => ⟨S1x128x128, .f32⟩
  | .hbm, ⟨48, _⟩ => ⟨S6x128x128, .f32⟩
  | .hbm, ⟨49, _⟩ => ⟨S6x128x128, .f32⟩
  | .hbm, ⟨50, _⟩ => ⟨S6x128x128, .f32⟩
  | .hbm, ⟨51, _⟩ => ⟨S6x128x128, .f32⟩
  | .hbm, ⟨52, _⟩ => ⟨S_, .f32⟩
  | .hbm, ⟨53, _⟩ => ⟨S_, .f32⟩
  | .hbm, ⟨54, _⟩ => ⟨S6x128x128, .i1⟩
  | .hbm, ⟨55, _⟩ => ⟨S6x128x128, .f32⟩
  | .hbm, ⟨56, _⟩ => ⟨S6x128x128, .f32⟩
  | .hbm, ⟨57, _⟩ => ⟨S1x6, .f32⟩
  | .hbm, ⟨58, _⟩ => ⟨S128x1, .f32⟩
  | .hbm, ⟨59, _⟩ => ⟨S_, .f32⟩
  | .hbm, ⟨60, _⟩ => ⟨S128x1, .f32⟩
  | .hbm, ⟨61, _⟩ => ⟨S128x1, .f32⟩
  | .hbm, ⟨62, _⟩ => ⟨S128x6, .f32⟩
  | .hbm, ⟨63, _⟩ => ⟨S128x6, .f32⟩
  | .hbm, ⟨64, _⟩ => ⟨S128x6, .f32⟩
  | .hbm, ⟨65, _⟩ => ⟨S128x6, .f32⟩
  | .hbm, ⟨66, _⟩ => ⟨S128x6x64, .f32⟩
  | .hbm, ⟨67, _⟩ => ⟨S128x384, .f32⟩
  | .hbm, ⟨68, _⟩ => ⟨S1x6, .f32⟩
  | .hbm, ⟨69, _⟩ => ⟨S128x1, .f32⟩
  | .hbm, ⟨70, _⟩ => ⟨S_, .f32⟩
  | .hbm, ⟨71, _⟩ => ⟨S128x1, .f32⟩
  | .hbm, ⟨72, _⟩ => ⟨S128x1, .f32⟩
  | .hbm, ⟨73, _⟩ => ⟨S128x6, .f32⟩
  | .hbm, ⟨74, _⟩ => ⟨S128x6, .f32⟩
  | .hbm, ⟨75, _⟩ => ⟨S128x6, .f32⟩
  | .hbm, ⟨76, _⟩ => ⟨S128x6, .f32⟩
  | .hbm, ⟨77, _⟩ => ⟨S128x6x64, .f32⟩
  | .hbm, ⟨78, _⟩ => ⟨S128x384, .f32⟩
  | .hbm, ⟨79, _⟩ => ⟨S_, .f32⟩
  | .hbm, ⟨80, _⟩ => ⟨S6, .f32⟩
  | .hbm, ⟨81, _⟩ => ⟨S6, .f32⟩
  | .hbm, ⟨82, _⟩ => ⟨S6, .f32⟩
  | .hbm, ⟨83, _⟩ => ⟨S6x1x1, .f32⟩
  | .hbm, ⟨84, _⟩ => ⟨S6x64x64, .f32⟩
  | .hbm, ⟨85, _⟩ => ⟨S1x384, .f32⟩
  | .hbm, ⟨86, _⟩ => ⟨S4x4096x384, .bf16⟩
  | .hbm, ⟨87, _⟩ => ⟨S4x6x64x64, .f32⟩
  | .local _ .vmem, ⟨0, _⟩ => ⟨S1x128x1536, .f32⟩
  | .local _ .vmem, ⟨1, _⟩ => ⟨S1x128x1536, .f32⟩
  | .local _ .vmem, ⟨2, _⟩ => ⟨S1x6x64x64, .f32⟩
  | .local _ .vmem, ⟨3, _⟩ => ⟨S1x6x64x64, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S6x128x128, .f32⟩
  | .local _ .vmem, ⟨9, _⟩ => ⟨S128x384, .f32⟩
  | .local _ .vmem, ⟨10, _⟩ => ⟨S128x384, .f32⟩
  | .local _ .vmem, ⟨11, _⟩ => ⟨S6x64x64, .f32⟩
  | .local _ .vmem, ⟨12, _⟩ => ⟨S1x384, .f32⟩
  | .local _ .vmem, ⟨13, _⟩ => ⟨S1x128x384, .bf16⟩
  | .local _ .vmem, ⟨14, _⟩ => ⟨S1x128x384, .bf16⟩
  | .local _ .vmem, ⟨15, _⟩ => ⟨S1x6x64x64, .f32⟩
  | .local _ .vmem, ⟨16, _⟩ => ⟨S1x6x64x64, .f32⟩
  | .local _ .vmem, ⟨17, _⟩ => ⟨S6x64x64, .f32⟩
  | _, _ => ⟨S4x4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_3 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_4 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_5 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_6 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_7 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_8 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70_0 : Ref sig .tc := ⟨.hbm, 86, rfl⟩
abbrev main_v70_1 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v405 : BitVec 1 := Scalar.cmpi .eq arg1 c31_i32
  let v406 : BitVec 32 := Scalar.extui v405
  let c0_i32_175 : BitVec 32 := 0#32
  let v407 : BitVec 1 := Scalar.cmpi .ne v406 c0_i32_175
  v407

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S6x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S6x64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x128x384 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x6x64x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S4x4096x1536 : Shape := ⟨3, ![4, 4096, 1536]⟩
abbrev S4x6x64x64 : Shape := ⟨4, ![4, 6, 64, 64]⟩
abbrev S384 : Shape := ⟨1, ![384]⟩
abbrev S4x4096x384 : Shape := ⟨3, ![4, 4096, 384]⟩
abbrev S4096 : Shape := ⟨1, ![4096]⟩
abbrev S4x4096x6x64 : Shape := ⟨4, ![4, 4096, 6, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S4x4096x6x32 : Shape := ⟨4, ![4, 4096, 6, 32]⟩
abbrev S6 : Shape := ⟨1, ![6]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S6x1x1 : Shape := ⟨3, ![6, 1, 1]⟩
abbrev S6x128x128 : Shape := ⟨3, ![6, 128, 128]⟩
abbrev S1x6 : Shape := ⟨2, ![1, 6]⟩
abbrev S128x6 : Shape := ⟨2, ![128, 6]⟩
abbrev S4x32x128x6x64 : Shape := ⟨5, ![4, 32, 128, 6, 64]⟩
abbrev S32x4x128x6x64 : Shape := ⟨5, ![32, 4, 128, 6, 64]⟩
abbrev S1x4x128x6x64 : Shape := ⟨5, ![1, 4, 128, 6, 64]⟩
abbrev S4x128x6x64 : Shape := ⟨4, ![4, 128, 6, 64]⟩
abbrev S4x6x128x128 : Shape := ⟨4, ![4, 6, 128, 128]⟩
abbrev S1x6x128x128 : Shape := ⟨4, ![1, 6, 128, 128]⟩
abbrev S4x6x64x128 : Shape := ⟨4, ![4, 6, 64, 128]⟩
abbrev S1x128x6x1 : Shape := ⟨4, ![1, 128, 6, 1]⟩
abbrev S1x6x1x1 : Shape := ⟨4, ![1, 6, 1, 1]⟩
abbrev S4x4096x6 : Shape := ⟨3, ![4, 4096, 6]⟩
abbrev S4x4096x6x1 : Shape := ⟨4, ![4, 4096, 6, 1]⟩
abbrev S1x1x384 : Shape := ⟨3, ![1, 1, 384]⟩

abbrev nBuf : Space → Nat
  | .hbm => 239
  | .vmem => 0
  | .smem => 0
  | _ => 0

abbrev hbmTy0_0 (i : Nat) : BufTy := match i % 128 with
  | 0 => ⟨S4x4096x1536, .f32⟩
  | 1 => ⟨S4x6x64x64, .f32⟩
  | 2 => ⟨S384, .f32⟩
  | 3 => ⟨S4x4096x384, .f32⟩
  | 4 => ⟨S4x4096x384, .f32⟩
  | 5 => ⟨S4x4096x384, .f32⟩
  | 6 => ⟨S4096, .i32⟩
  | 7 => ⟨S4x4096x6x64, .f32⟩
  | 8 => ⟨S32, .f32⟩
  | 9 => ⟨S32, .f32⟩
  | 10 => ⟨S_, .f32⟩
  | 11 => ⟨S32, .f32⟩
  | 12 => ⟨S32, .f32⟩
  | 13 => ⟨S_, .f32⟩
  | 14 => ⟨S32, .f32⟩
  | 15 => ⟨S32, .f32⟩
  | 16 => ⟨S4096, .f32⟩
  | 17 => ⟨S4096x1, .f32⟩
  | 18 => ⟨S1x32, .f32⟩
  | 19 => ⟨S4096x32, .f32⟩
  | 20 => ⟨S4096x32, .f32⟩
  | 21 => ⟨S4096x32, .f32⟩
  | 22 => ⟨S4096x32, .f32⟩
  | 23 => ⟨S1x4096x1x32, .f32⟩
  | 24 => ⟨S4096x32, .f32⟩
  | 25 => ⟨S1x4096x1x32, .f32⟩
  | 26 => ⟨S4x4096x6x32, .f32⟩
  | 27 => ⟨S4x4096x6x32, .f32⟩
  | 28 => ⟨S4x4096x6x32, .f32⟩
  | 29 => ⟨S4x4096x6x32, .f32⟩
  | 30 => ⟨S4x4096x6x32, .f32⟩
  | 31 => ⟨S4x4096x6x32, .f32⟩
  | 32 => ⟨S4x4096x6x32, .f32⟩
  | 33 => ⟨S4x4096x6x32, .f32⟩
  | 34 => ⟨S4x4096x6x32, .f32⟩
  | 35 => ⟨S4x4096x6x32, .f32⟩
  | 36 => ⟨S4x4096x6x32, .f32⟩
  | 37 => ⟨S4x4096x6x32, .f32⟩
  | 38 => ⟨S4x4096x6x64, .f32⟩
  | 39 => ⟨S4x4096x6x64, .f32⟩
  | 40 => ⟨S32, .f32⟩
  | 41 => ⟨S32, .f32⟩
  | 42 => ⟨S_, .f32⟩
  | 43 => ⟨S32, .f32⟩
  | 44 => ⟨S32, .f32⟩
  | 45 => ⟨S_, .f32⟩
  | 46 => ⟨S32, .f32⟩
  | 47 => ⟨S32, .f32⟩
  | 48 => ⟨S4096, .f32⟩
  | 49 => ⟨S4096x1, .f32⟩
  | 50 => ⟨S1x32, .f32⟩
  | 51 => ⟨S4096x32, .f32⟩
  | 52 => ⟨S4096x32, .f32⟩
  | 53 => ⟨S4096x32, .f32⟩
  | 54 => ⟨S4096x32, .f32⟩
  | 55 => ⟨S1x4096x1x32, .f32⟩
  | 56 => ⟨S4096x32, .f32⟩
  | 57 => ⟨S1x4096x1x32, .f32⟩
  | 58 => ⟨S4x4096x6x32, .f32⟩
  | 59 => ⟨S4x4096x6x32, .f32⟩
  | 60 => ⟨S4x4096x6x32, .f32⟩
  | 61 => ⟨S4x4096x6x32, .f32⟩
  | 62 => ⟨S4x4096x6x32, .f32⟩
  | 63 => ⟨S4x4096x6x32, .f32⟩
  | 64 => ⟨S4x4096x6x32, .f32⟩
  | 65 => ⟨S4x4096x6x32, .f32⟩
  | 66 => ⟨S4x4096x6x32, .f32⟩
  | 67 => ⟨S4x4096x6x32, .f32⟩
  | 68 => ⟨S4x4096x6x32, .f32⟩
  | 69 => ⟨S4x4096x6x32, .f32⟩
  | 70 => ⟨S4x4096x6x64, .f32⟩
  | 71 => ⟨S_, .f32⟩
  | 72 => ⟨S4x4096x6x64, .f32⟩
  | 73 => ⟨S4x4096x6x64, .f32⟩
  | 74 => ⟨S4x4096x6x64, .f32⟩
  | 75 => ⟨S6, .f32⟩
  | 76 => ⟨S_, .f32⟩
  | 77 => ⟨S6, .f32⟩
  | 78 => ⟨S6, .f32⟩
  | 79 => ⟨S_, .f32⟩
  | 80 => ⟨S6, .f32⟩
  | 81 => ⟨S6, .f32⟩
  | 82 => ⟨S6, .f32⟩
  | 83 => ⟨S6, .f32⟩
  | 84 => ⟨S6, .f32⟩
  | 85 => ⟨S128, .f32⟩
  | 86 => ⟨S128x1, .f32⟩
  | 87 => ⟨S1x128, .f32⟩
  | 88 => ⟨S128x128, .f32⟩
  | 89 => ⟨S128x128, .f32⟩
  | 90 => ⟨S128x128, .f32⟩
  | 91 => ⟨S1x128x128, .f32⟩
  | 92 => ⟨S_, .f32⟩
  | 93 => ⟨S1x128x128, .f32⟩
  | 94 => ⟨S1x128x128, .i1⟩
  | 95 => ⟨S6x1x1, .f32⟩
  | 96 => ⟨S_, .f32⟩
  | 97 => ⟨S128x128, .f32⟩
  | 98 => ⟨S128x128, .f32⟩
  | 99 => ⟨S1x128x128, .f32⟩
  | 100 => ⟨S6x128x128, .f32⟩
  | 101 => ⟨S6x128x128, .f32⟩
  | 102 => ⟨S6x128x128, .f32⟩
  | 103 => ⟨S6x128x128, .f32⟩
  | 104 => ⟨S_, .f32⟩
  | 105 => ⟨S_, .f32⟩
  | 106 => ⟨S6x128x128, .i1⟩
  | 107 => ⟨S6x128x128, .f32⟩
  | 108 => ⟨S6x128x128, .f32⟩
  | 109 => ⟨S1x6, .f32⟩
  | 110 => ⟨S128x1, .f32⟩
  | 111 => ⟨S_, .f32⟩
  | 112 => ⟨S128x1, .f32⟩
  | 113 => ⟨S128x1, .f32⟩
  | 114 => ⟨S128x6, .f32⟩
  | 115 => ⟨S128x6, .f32⟩
  | 116 => ⟨S128x6, .f32⟩
  | 117 => ⟨S128x6, .f32⟩
  | 118 => ⟨S1x6, .f32⟩
  | 119 => ⟨S128x1, .f32⟩
  | 120 => ⟨S_, .f32⟩
  | 121 => ⟨S128x1, .f32⟩
  | 122 => ⟨S128x1, .f32⟩
  | 123 => ⟨S128x6, .f32⟩
  | 124 => ⟨S128x6, .f32⟩
  | 125 => ⟨S128x6, .f32⟩
  | 126 => ⟨S128x6, .f32⟩
  | 127 => ⟨S_, .f32⟩
  | _ => ⟨S4x4096x1536, .f32⟩

abbrev hbmTy0_1 (i : Nat) : BufTy := match i % 128 with
  | 0 => ⟨S6, .f32⟩
  | 1 => ⟨S6, .f32⟩
  | 2 => ⟨S6, .f32⟩
  | 3 => ⟨S4x32x128x6x64, .f32⟩
  | 4 => ⟨S32x4x128x6x64, .f32⟩
  | 5 => ⟨S4x32x128x6x64, .f32⟩
  | 6 => ⟨S32x4x128x6x64, .f32⟩
  | 7 => ⟨S4x32x128x6x64, .f32⟩
  | 8 => ⟨S32x4x128x6x64, .f32⟩
  | 9 => ⟨S_, .f32⟩
  | 10 => ⟨S32x4x128x6x64, .f32⟩
  | 11 => ⟨S_, .i32⟩
  | 12 => ⟨S32x4x128x6x64, .f32⟩
  | 13 => ⟨S32x4x128x6x64, .f32⟩
  | 14 => ⟨S32x4x128x6x64, .f32⟩
  | 15 => ⟨S6x128x128, .f32⟩
  | 16 => ⟨S128x6, .f32⟩
  | 17 => ⟨S6, .f32⟩
  | 18 => ⟨S128x6, .f32⟩
  | 19 => ⟨S_, .i32⟩
  | 20 => ⟨S4x6x64x64, .f32⟩
  | 21 => ⟨S32x4x128x6x64, .f32⟩
  | 22 => ⟨S_, .i32⟩
  | 23 => ⟨S_, .i1⟩
  | 24 => ⟨S_, .i32⟩
  | 25 => ⟨S_, .i32⟩
  | 26 => ⟨S_, .i32⟩
  | 27 => ⟨S_, .i32⟩
  | 28 => ⟨S1x4x128x6x64, .f32⟩
  | 29 => ⟨S4x128x6x64, .f32⟩
  | 30 => ⟨S_, .i32⟩
  | 31 => ⟨S_, .i32⟩
  | 32 => ⟨S_, .i32⟩
  | 33 => ⟨S_, .i32⟩
  | 34 => ⟨S1x4x128x6x64, .f32⟩
  | 35 => ⟨S4x128x6x64, .f32⟩
  | 36 => ⟨S_, .i32⟩
  | 37 => ⟨S_, .i32⟩
  | 38 => ⟨S_, .i32⟩
  | 39 => ⟨S_, .i32⟩
  | 40 => ⟨S1x4x128x6x64, .f32⟩
  | 41 => ⟨S4x128x6x64, .f32⟩
  | 42 => ⟨S4x6x128x128, .f32⟩
  | 43 => ⟨S1x6x128x128, .f32⟩
  | 44 => ⟨S4x6x128x128, .f32⟩
  | 45 => ⟨S4x6x128x128, .f32⟩
  | 46 => ⟨S4x6x64x128, .f32⟩
  | 47 => ⟨S4x128x6x64, .f32⟩
  | 48 => ⟨S4x6x64x128, .f32⟩
  | 49 => ⟨S4x128x6x64, .f32⟩
  | 50 => ⟨S1x128x6x1, .f32⟩
  | 51 => ⟨S4x128x6x64, .f32⟩
  | 52 => ⟨S4x128x6x64, .f32⟩
  | 53 => ⟨S1x6x1x1, .f32⟩
  | 54 => ⟨S4x6x64x64, .f32⟩
  | 55 => ⟨S4x6x64x64, .f32⟩
  | 56 => ⟨S1x128x6x1, .f32⟩
  | 57 => ⟨S4x128x6x64, .f32⟩
  | 58 => ⟨S4x128x6x64, .f32⟩
  | 59 => ⟨S4x6x64x64, .f32⟩
  | 60 => ⟨S4x6x64x64, .f32⟩
  | 61 => ⟨S4x128x6x64, .f32⟩
  | 62 => ⟨S1x4x128x6x64, .f32⟩
  | 63 => ⟨S_, .i32⟩
  | 64 => ⟨S_, .i32⟩
  | 65 => ⟨S_, .i32⟩
  | 66 => ⟨S_, .i32⟩
  | 67 => ⟨S32x4x128x6x64, .f32⟩
  | 68 => ⟨S_, .i32⟩
  | 69 => ⟨S_, .i32⟩
  | 70 => ⟨S4x32x128x6x64, .f32⟩
  | 71 => ⟨S4x4096x6x64, .f32⟩
  | 72 => ⟨S_, .f32⟩
  | 73 => ⟨S4x4096x6, .f32⟩
  | 74 => ⟨S4x4096x6x1, .f32⟩
  | 75 => ⟨S_, .f32⟩
  | 76 => ⟨S4x4096x6x1, .f32⟩
  | 77 => ⟨S4x4096x6x1, .f32⟩
  | 78 => ⟨S4x4096x6x64, .f32⟩
  | 79 => ⟨S4x4096x6x64, .f32⟩
  | 80 => ⟨S4x4096x6x64, .f32⟩
  | 81 => ⟨S_, .f32⟩
  | 82 => ⟨S4x4096x6, .f32⟩
  | 83 => ⟨S4x4096x6x1, .f32⟩
  | 84 => ⟨S_, .f32⟩
  | 85 => ⟨S4x4096x6x1, .f32⟩
  | 86 => ⟨S4x4096x6x1, .f32⟩
  | 87 => ⟨S4x4096x6x64, .f32⟩
  | 88 => ⟨S4x4096x6x64, .f32⟩
  | 89 => ⟨S_, .f32⟩
  | 90 => ⟨S4x4096x6x1, .f32⟩
  | 91 => ⟨S4x4096x6x1, .f32⟩
  | 92 => ⟨S4x4096x6x1, .f32⟩
  | 93 => ⟨S4x4096x6x64, .f32⟩
  | 94 => ⟨S4x4096x6x64, .f32⟩
  | 95 => ⟨S4x4096x384, .f32⟩
  | 96 => ⟨S1x1x384, .f32⟩
  | 97 => ⟨S4x4096x384, .f32⟩
  | 98 => ⟨S4x4096x384, .f32⟩
  | 99 => ⟨S4x4096x384, .f32⟩
  | 100 => ⟨S4x4096x384, .f32⟩
  | 101 => ⟨S4x4096x384, .f32⟩
  | 102 => ⟨S_, .f32⟩
  | 103 => ⟨S4x4096x384, .f32⟩
  | 104 => ⟨S4x4096x384, .f32⟩
  | 105 => ⟨S_, .f32⟩
  | 106 => ⟨S4x4096x384, .f32⟩
  | 107 => ⟨S4x4096x384, .f32⟩
  | 108 => ⟨S4x4096x384, .f32⟩
  | 109 => ⟨S4x4096x384, .f32⟩
  | 110 => ⟨S4x4096x384, .bf16⟩
  | _ => ⟨S4x4096x1536, .f32⟩

abbrev hbmTy (i : Nat) : BufTy := match i / 128 with
  | 0 => hbmTy0_0 i
  | 1 => hbmTy0_1 i
  | _ => ⟨S4x4096x1536, .f32⟩

abbrev bufTy : (tb : Table) → Fin (tcTables nBuf tb) → BufTy
  | .hbm, ⟨i, _⟩ => hbmTy i
  | _, _ => ⟨S4x4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_cst_1 : Ref sig .tc := ⟨.hbm, 42, rfl⟩
abbrev main_v37 : Ref sig .tc := ⟨.hbm, 43, rfl⟩
abbrev main_v38 : Ref sig .tc := ⟨.hbm, 44, rfl⟩
abbrev main_cst_2 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_cst_3 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_cst_4 : Ref sig .tc := ⟨.hbm, 76, rfl⟩
abbrev main_v68 : Ref sig .tc := ⟨.hbm, 77, rfl⟩
abbrev main_v69 : Ref sig .tc := ⟨.hbm, 78, rfl⟩
abbrev main_cst_5 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_cst_6 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_cst_7 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_cst_8 : Ref sig .tc := ⟨.hbm, 104, rfl⟩
abbrev main_call0_v0 : Ref sig .tc := ⟨.hbm, 105, rfl⟩
abbrev main_call0_v1 : Ref sig .tc := ⟨.hbm, 106, rfl⟩
abbrev main_call0_v2 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_cst_9 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_cst_10 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_cst_11 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_cst_12 : Ref sig .tc := ⟨.hbm, 137, rfl⟩
abbrev main_v118 : Ref sig .tc := ⟨.hbm, 138, rfl⟩
abbrev main_c : Ref sig .tc := ⟨.hbm, 139, rfl⟩
abbrev main_v119_0 : Ref sig .tc := ⟨.hbm, 140, rfl⟩
abbrev main_v119_1 : Ref sig .tc := ⟨.hbm, 141, rfl⟩
abbrev main_v119_2 : Ref sig .tc := ⟨.hbm, 142, rfl⟩
abbrev main_v119_3 : Ref sig .tc := ⟨.hbm, 143, rfl⟩
abbrev main_v119_4 : Ref sig .tc := ⟨.hbm, 144, rfl⟩
abbrev main_v119_5 : Ref sig .tc := ⟨.hbm, 145, rfl⟩
abbrev main_v119_6 : Ref sig .tc := ⟨.hbm, 146, rfl⟩
abbrev main_v119_7 : Ref sig .tc := ⟨.hbm, 147, rfl⟩
abbrev main_v119_8 : Ref sig .tc := ⟨.hbm, 148, rfl⟩
abbrev main_v119_9 : Ref sig .tc := ⟨.hbm, 149, rfl⟩
abbrev main_while0c_c_27 : Ref sig .tc := ⟨.hbm, 150, rfl⟩
abbrev main_while0c_v148 : Ref sig .tc := ⟨.hbm, 151, rfl⟩
abbrev main_while0b_call1_c : Ref sig .tc := ⟨.hbm, 152, rfl⟩
abbrev main_while0b_call1_c_0 : Ref sig .tc := ⟨.hbm, 153, rfl⟩
abbrev main_while0b_call1_c_1 : Ref sig .tc := ⟨.hbm, 154, rfl⟩
abbrev main_while0b_call1_c_2 : Ref sig .tc := ⟨.hbm, 155, rfl⟩
abbrev main_while0b_call1_v0 : Ref sig .tc := ⟨.hbm, 156, rfl⟩
abbrev main_while0b_v148 : Ref sig .tc := ⟨.hbm, 157, rfl⟩
abbrev main_while0b_call2_c : Ref sig .tc := ⟨.hbm, 158, rfl⟩
abbrev main_while0b_call2_c_0 : Ref sig .tc := ⟨.hbm, 159, rfl⟩
abbrev main_while0b_call2_c_1 : Ref sig .tc := ⟨.hbm, 160, rfl⟩
abbrev main_while0b_call2_c_2 : Ref sig .tc := ⟨.hbm, 161, rfl⟩
abbrev main_while0b_call2_v0 : Ref sig .tc := ⟨.hbm, 162, rfl⟩
abbrev main_while0b_v149 : Ref sig .tc := ⟨.hbm, 163, rfl⟩
abbrev main_while0b_call3_c : Ref sig .tc := ⟨.hbm, 164, rfl⟩
abbrev main_while0b_call3_c_0 : Ref sig .tc := ⟨.hbm, 165, rfl⟩
abbrev main_while0b_call3_c_1 : Ref sig .tc := ⟨.hbm, 166, rfl⟩
abbrev main_while0b_call3_c_2 : Ref sig .tc := ⟨.hbm, 167, rfl⟩
abbrev main_while0b_call3_v0 : Ref sig .tc := ⟨.hbm, 168, rfl⟩
abbrev main_while0b_v150 : Ref sig .tc := ⟨.hbm, 169, rfl⟩
abbrev main_while0b_v151 : Ref sig .tc := ⟨.hbm, 170, rfl⟩
abbrev main_while0b_v152 : Ref sig .tc := ⟨.hbm, 171, rfl⟩
abbrev main_while0b_v153 : Ref sig .tc := ⟨.hbm, 172, rfl⟩
abbrev main_while0b_v154 : Ref sig .tc := ⟨.hbm, 173, rfl⟩
abbrev main_while0b_v155 : Ref sig .tc := ⟨.hbm, 174, rfl⟩
abbrev main_while0b_v156 : Ref sig .tc := ⟨.hbm, 175, rfl⟩
abbrev main_while0b_v157 : Ref sig .tc := ⟨.hbm, 176, rfl⟩
abbrev main_while0b_v158 : Ref sig .tc := ⟨.hbm, 177, rfl⟩
abbrev main_while0b_v159 : Ref sig .tc := ⟨.hbm, 178, rfl⟩
abbrev main_while0b_v160 : Ref sig .tc := ⟨.hbm, 179, rfl⟩
abbrev main_while0b_v161 : Ref sig .tc := ⟨.hbm, 180, rfl⟩
abbrev main_while0b_v162 : Ref sig .tc := ⟨.hbm, 181, rfl⟩
abbrev main_while0b_v163 : Ref sig .tc := ⟨.hbm, 182, rfl⟩
abbrev main_while0b_v164 : Ref sig .tc := ⟨.hbm, 183, rfl⟩
abbrev main_while0b_v165 : Ref sig .tc := ⟨.hbm, 184, rfl⟩
abbrev main_while0b_v166 : Ref sig .tc := ⟨.hbm, 185, rfl⟩
abbrev main_while0b_v167 : Ref sig .tc := ⟨.hbm, 186, rfl⟩
abbrev main_while0b_v168 : Ref sig .tc := ⟨.hbm, 187, rfl⟩
abbrev main_while0b_v169 : Ref sig .tc := ⟨.hbm, 188, rfl⟩
abbrev main_while0b_v170 : Ref sig .tc := ⟨.hbm, 189, rfl⟩
abbrev main_while0b_call4_v0 : Ref sig .tc := ⟨.hbm, 190, rfl⟩
abbrev main_while0b_call4_c : Ref sig .tc := ⟨.hbm, 191, rfl⟩
abbrev main_while0b_call4_c_0 : Ref sig .tc := ⟨.hbm, 192, rfl⟩
abbrev main_while0b_call4_c_1 : Ref sig .tc := ⟨.hbm, 193, rfl⟩
abbrev main_while0b_call4_c_2 : Ref sig .tc := ⟨.hbm, 194, rfl⟩
abbrev main_while0b_v171 : Ref sig .tc := ⟨.hbm, 195, rfl⟩
abbrev main_while0b_c_27 : Ref sig .tc := ⟨.hbm, 196, rfl⟩
abbrev main_while0b_v172 : Ref sig .tc := ⟨.hbm, 197, rfl⟩
abbrev main_v120 : Ref sig .tc := ⟨.hbm, 198, rfl⟩
abbrev main_v121 : Ref sig .tc := ⟨.hbm, 199, rfl⟩
abbrev main_cst_13 : Ref sig .tc := ⟨.hbm, 200, rfl⟩
abbrev main_v122 : Ref sig .tc := ⟨.hbm, 201, rfl⟩
abbrev main_v123 : Ref sig .tc := ⟨.hbm, 202, rfl⟩
abbrev main_cst_14 : Ref sig .tc := ⟨.hbm, 203, rfl⟩
abbrev main_v124 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_v128 : Ref sig .tc := ⟨.hbm, 208, rfl⟩
abbrev main_cst_15 : Ref sig .tc := ⟨.hbm, 209, rfl⟩
abbrev main_v129 : Ref sig .tc := ⟨.hbm, 210, rfl⟩
abbrev main_v130 : Ref sig .tc := ⟨.hbm, 211, rfl⟩
abbrev main_cst_16 : Ref sig .tc := ⟨.hbm, 212, rfl⟩
abbrev main_v131 : Ref sig .tc := ⟨.hbm, 213, rfl⟩
abbrev main_v132 : Ref sig .tc := ⟨.hbm, 214, rfl⟩
abbrev main_v133 : Ref sig .tc := ⟨.hbm, 215, rfl⟩
abbrev main_v134 : Ref sig .tc := ⟨.hbm, 216, rfl⟩
abbrev main_cst_17 : Ref sig .tc := ⟨.hbm, 217, rfl⟩
abbrev main_v135 : Ref sig .tc := ⟨.hbm, 218, rfl⟩
abbrev main_v136 : Ref sig .tc := ⟨.hbm, 219, rfl⟩
abbrev main_v137 : Ref sig .tc := ⟨.hbm, 220, rfl⟩
abbrev main_v138 : Ref sig .tc := ⟨.hbm, 221, rfl⟩
abbrev main_v139 : Ref sig .tc := ⟨.hbm, 222, rfl⟩
abbrev main_v140 : Ref sig .tc := ⟨.hbm, 223, rfl⟩
abbrev main_v141 : Ref sig .tc := ⟨.hbm, 224, rfl⟩
abbrev main_v142 : Ref sig .tc := ⟨.hbm, 225, rfl⟩
abbrev main_v143 : Ref sig .tc := ⟨.hbm, 226, rfl⟩
abbrev main_v144 : Ref sig .tc := ⟨.hbm, 227, rfl⟩
abbrev main_call5_v0 : Ref sig .tc := ⟨.hbm, 228, rfl⟩
abbrev main_call5_v1 : Ref sig .tc := ⟨.hbm, 229, rfl⟩
abbrev main_call5_cst : Ref sig .tc := ⟨.hbm, 230, rfl⟩
abbrev main_call5_v2 : Ref sig .tc := ⟨.hbm, 231, rfl⟩
abbrev main_call5_v3 : Ref sig .tc := ⟨.hbm, 232, rfl⟩
abbrev main_call5_cst_0 : Ref sig .tc := ⟨.hbm, 233, rfl⟩
abbrev main_call5_v4 : Ref sig .tc := ⟨.hbm, 234, rfl⟩
abbrev main_call5_v5 : Ref sig .tc := ⟨.hbm, 235, rfl⟩
abbrev main_v145 : Ref sig .tc := ⟨.hbm, 236, rfl⟩
abbrev main_v146 : Ref sig .tc := ⟨.hbm, 237, rfl⟩
abbrev main_v147 : Ref sig .tc := ⟨.hbm, 238, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S4x4096x1024 : Shape := ⟨3, ![4, 4096, 1024]⟩
abbrev S1024 : Shape := ⟨1, ![1024]⟩
abbrev S1024x3908 : Shape := ⟨2, ![1024, 3908]⟩
abbrev S1024x3904 : Shape := ⟨2, ![1024, 3904]⟩
abbrev S1024x768 : Shape := ⟨2, ![1024, 768]⟩
abbrev S768x1024 : Shape := ⟨2, ![768, 1024]⟩
abbrev S1024x68 : Shape := ⟨2, ![1024, 68]⟩
abbrev S68x1024 : Shape := ⟨2, ![68, 1024]⟩
abbrev S_ : Shape := ⟨0, ![]⟩
abbrev S4x1024 : Shape := ⟨2, ![4, 1024]⟩
abbrev S840x1024 : Shape := ⟨2, ![840, 1024]⟩
abbrev S16384x1024 : Shape := ⟨2, ![16384, 1024]⟩
abbrev S1x1024 : Shape := ⟨2, ![1, 1024]⟩
abbrev S16384x512 : Shape := ⟨2, ![16384, 512]⟩
abbrev S16384x1536 : Shape := ⟨2, ![16384, 1536]⟩
abbrev S16384x384 : Shape := ⟨2, ![16384, 384]⟩
abbrev S4x384x4096 : Shape := ⟨3, ![4, 384, 4096]⟩
abbrev S4x64x4096 : Shape := ⟨3, ![4, 64, 4096]⟩
abbrev S4x480x4096 : Shape := ⟨3, ![4, 480, 4096]⟩
abbrev S16384x256 : Shape := ⟨2, ![16384, 256]⟩
abbrev S16384x64 : Shape := ⟨2, ![16384, 64]⟩
abbrev S4x8x4096 : Shape := ⟨3, ![4, 8, 4096]⟩
abbrev S512x1024 : Shape := ⟨2, ![512, 1024]⟩
abbrev S512x512 : Shape := ⟨2, ![512, 512]⟩
abbrev S512x1536 : Shape := ⟨2, ![512, 1536]⟩
abbrev S512x384 : Shape := ⟨2, ![512, 384]⟩
abbrev S1x384x512 : Shape := ⟨3, ![1, 384, 512]⟩
abbrev S1x64x512 : Shape := ⟨3, ![1, 64, 512]⟩
abbrev S1x480x512 : Shape := ⟨3, ![1, 480, 512]⟩
abbrev S512x256 : Shape := ⟨2, ![512, 256]⟩
abbrev S512x64 : Shape := ⟨2, ![512, 64]⟩
abbrev S1x8x512 : Shape := ⟨3, ![1, 8, 512]⟩
abbrev S512 : Shape := ⟨1, ![512]⟩
abbrev S512x1 : Shape := ⟨2, ![512, 1]⟩
abbrev S1024x512 : Shape := ⟨2, ![1024, 512]⟩
abbrev S1024x1536 : Shape := ⟨2, ![1024, 1536]⟩
abbrev S1024x384 : Shape := ⟨2, ![1024, 384]⟩
abbrev S1024x256 : Shape := ⟨2, ![1024, 256]⟩
abbrev S1024x64 : Shape := ⟨2, ![1024, 64]⟩
abbrev S840x512 : Shape := ⟨2, ![840, 512]⟩
abbrev S384x512 : Shape := ⟨2, ![384, 512]⟩
abbrev S16x512 : Shape := ⟨2, ![16, 512]⟩
abbrev S64x512 : Shape := ⟨2, ![64, 512]⟩
abbrev S1x16x512 : Shape := ⟨3, ![1, 16, 512]⟩
abbrev S8x512 : Shape := ⟨2, ![8, 512]⟩

abbrev nBuf : Space → Nat
  | .hbm => 27
  | .vmem => 29
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x3908, .f32⟩
  | .hbm, ⟨3, _⟩ => ⟨S1024x3904, .f32⟩
  | .hbm, ⟨4, _⟩ => ⟨S1024x3904, .bf16⟩
  | .hbm, ⟨5, _⟩ => ⟨S1024x768, .f32⟩
  | .hbm, ⟨6, _⟩ => ⟨S768x1024, .f32⟩
  | .hbm, ⟨7, _⟩ => ⟨S1024x68, .f32⟩
  | .hbm, ⟨8, _⟩ => ⟨S68x1024, .f32⟩
  | .hbm, ⟨9, _⟩ => ⟨S_, .f32⟩
  | .hbm, ⟨10, _⟩ => ⟨S4x1024, .f32⟩
  | .hbm, ⟨11, _⟩ => ⟨S840x1024, .f32⟩
  | .hbm, ⟨12, _⟩ => ⟨S840x1024, .bf16⟩
  | .hbm, ⟨13, _⟩ => ⟨S16384x1024, .f32⟩
  | .hbm, ⟨14, _⟩ => ⟨S1x1024, .f32⟩
  | .hbm, ⟨15, _⟩ => ⟨S16384x512, .f32⟩
  | .hbm, ⟨16, _⟩ => ⟨S16384x1536, .f32⟩
  | .hbm, ⟨17, _⟩ => ⟨S16384x384, .f32⟩
  | .hbm, ⟨18, _⟩ => ⟨S4x384x4096, .f32⟩
  | .hbm, ⟨19, _⟩ => ⟨S4x384x4096, .f32⟩
  | .hbm, ⟨20, _⟩ => ⟨S4x64x4096, .f32⟩
  | .hbm, ⟨21, _⟩ => ⟨S16384x384, .bf16⟩
  | .hbm, ⟨22, _⟩ => ⟨S16384x384, .bf16⟩
  | .hbm, ⟨23, _⟩ => ⟨S4x480x4096, .bf16⟩
  | .hbm, ⟨24, _⟩ => ⟨S16384x256, .bf16⟩
  | .hbm, ⟨25, _⟩ => ⟨S16384x64, .bf16⟩
  | .hbm, ⟨26, _⟩ => ⟨S4x8x4096, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3904, .bf16⟩
  | .local _ .vmem, ⟨4, _⟩ => ⟨S840x1024, .bf16⟩
  | .local _ .vmem, ⟨5, _⟩ => ⟨S512x512, .f32⟩
  | .local _ .vmem, ⟨6, _⟩ => ⟨S512x512, .f32⟩
  | .local _ .vmem, ⟨7, _⟩ => ⟨S512x1536, .f32⟩
  | .local _ .vmem, ⟨8, _⟩ => ⟨S512x1536, .f32⟩
  | .local _ .vmem, ⟨9, _⟩ => ⟨S512x384, .f32⟩
  | .local _ .vmem, ⟨10, _⟩ => ⟨S512x384, .f32⟩
  | .local _ .vmem, ⟨11, _⟩ => ⟨S1x384x512, .f32⟩
  | .local _ .vmem, ⟨12, _⟩ => ⟨S1x384x512, .f32⟩
  | .local _ .vmem, ⟨13, _⟩ => ⟨S1x384x512, .f32⟩
  | .local _ .vmem, ⟨14, _⟩ => ⟨S1x384x512, .f32⟩
  | .local _ .vmem, ⟨15, _⟩ => ⟨S1x64x512, .f32⟩
  | .local _ .vmem, ⟨16, _⟩ => ⟨S1x64x512, .f32⟩
  | .local _ .vmem, ⟨17, _⟩ => ⟨S512x384, .bf16⟩
  | .local _ .vmem, ⟨18, _⟩ => ⟨S512x384, .bf16⟩
  | .local _ .vmem, ⟨19, _⟩ => ⟨S512x384, .bf16⟩
  | .local _ .vmem, ⟨20, _⟩ => ⟨S512x384, .bf16⟩
  | .local _ .vmem, ⟨21, _⟩ => ⟨S1x480x512, .bf16⟩
  | .local _ .vmem, ⟨22, _⟩ => ⟨S1x480x512, .bf16⟩
  | .local _ .vmem, ⟨23, _⟩ => ⟨S512x256, .bf16⟩
  | .local _ .vmem, ⟨24, _⟩ => ⟨S512x256, .bf16⟩
  | .local _ .vmem, ⟨25, _⟩ => ⟨S512x64, .bf16⟩
  | .local _ .vmem, ⟨26, _⟩ => ⟨S512x64, .bf16⟩
  | .local _ .vmem, ⟨27, _⟩ => ⟨S1x8x512, .f32⟩
  | .local _ .vmem, ⟨28, _⟩ => ⟨S1x8x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev main_v11_2 : Ref sig .tc := ⟨.hbm, 17, rfl⟩
abbrev main_v11_3 : Ref sig .tc := ⟨.hbm, 18, rfl⟩
abbrev main_v11_4 : Ref sig .tc := ⟨.hbm, 19, rfl⟩
abbrev main_v11_5 : Ref sig .tc := ⟨.hbm, 20, rfl⟩
abbrev main_v11_6 : Ref sig .tc := ⟨.hbm, 21, rfl⟩
abbrev main_v11_7 : Ref sig .tc := ⟨.hbm, 22, rfl⟩
abbrev main_v11_8 : Ref sig .tc := ⟨.hbm, 23, rfl⟩
abbrev main_v11_9 : Ref sig .tc := ⟨.hbm, 24, rfl⟩
abbrev main_v11_10 : Ref sig .tc := ⟨.hbm, 25, rfl⟩
abbrev main_v11_11 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_9 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3904 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S840x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x384x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x384x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x384 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x384 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x480x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x64 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x8x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference2Ideal.lean ====
abbrev S4x4096x1024 : Shape := ⟨3, ![4, 4096, 1024]⟩
abbrev S1024 : Shape := ⟨1, ![1024]⟩
abbrev S1024x3908 : Shape := ⟨2, ![1024, 3908]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x3908 : Shape := ⟨3, ![4, 4096, 3908]⟩
abbrev S4x4096x256 : Shape := ⟨3, ![4, 4096, 256]⟩
abbrev S4x4096x384 : Shape := ⟨3, ![4, 4096, 384]⟩
abbrev S4x4096x64 : Shape := ⟨3, ![4, 4096, 64]⟩
abbrev S4x4096x4 : Shape := ⟨3, ![4, 4096, 4]⟩
abbrev S4x4096x6x64 : Shape := ⟨4, ![4, 4096, 6, 64]⟩
abbrev S4x4096x6x16 : Shape := ⟨4, ![4, 4096, 6, 16]⟩
abbrev S4x4096x6x80 : Shape := ⟨4, ![4, 4096, 6, 80]⟩
abbrev S4x4096x8 : Shape := ⟨3, ![4, 4096, 8]⟩
abbrev S4x4096x512 : Shape := ⟨3, ![4, 4096, 512]⟩
abbrev S16384x512 : Shape := ⟨2, ![16384, 512]⟩
abbrev S4x4096x1536 : Shape := ⟨3, ![4, 4096, 1536]⟩
abbrev S16384x1536 : Shape := ⟨2, ![16384, 1536]⟩
abbrev S16384x384 : Shape := ⟨2, ![16384, 384]⟩
abbrev S4x384x4096 : Shape := ⟨3, ![4, 384, 4096]⟩
abbrev S4x64x4096 : Shape := ⟨3, ![4, 64, 4096]⟩
abbrev S4x4096x480 : Shape := ⟨3, ![4, 4096, 480]⟩
abbrev S4x480x4096 : Shape := ⟨3, ![4, 480, 4096]⟩
abbrev S16384x256 : Shape := ⟨2, ![16384, 256]⟩
abbrev S16384x64 : Shape := ⟨2, ![16384, 64]⟩
abbrev S4x8x4096 : Shape := ⟨3, ![4, 8, 4096]⟩

abbrev nBuf : Space → Nat
  | .hbm => 66
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x3908, .f32⟩
  | .hbm, ⟨3, _⟩ => ⟨S4x4096x1024, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x1024, .f32⟩
  | .hbm, ⟨15, _⟩ => ⟨S4x4096x1024, .f32⟩
  | .hbm, ⟨16, _⟩ => ⟨S1x1x1024, .f32⟩
  | .hbm, ⟨17, _⟩ => ⟨S4x4096x1024, .f32⟩
  | .hbm, ⟨18, _⟩ => ⟨S4x4096x1024, .f32⟩
  | .hbm, ⟨19, _⟩ => ⟨S4x4096x3908, .f32⟩
  | .hbm, ⟨20, _⟩ => ⟨S4x4096x256, .f32⟩
  | .hbm, ⟨21, _⟩ => ⟨S4x4096x256, .f32⟩
  | .hbm, ⟨22, _⟩ => ⟨S4x4096x384, .f32⟩
  | .hbm, ⟨23, _⟩ => ⟨S4x4096x384, .f32⟩
  | .hbm, ⟨24, _⟩ => ⟨S4x4096x384, .f32⟩
  | .hbm, ⟨25, _⟩ => ⟨S4x4096x384, .f32⟩
  | .hbm, ⟨26, _⟩ => ⟨S4x4096x384, .f32⟩
  | .hbm, ⟨27, _⟩ => ⟨S4x4096x384, .f32⟩
  | .hbm, ⟨28, _⟩ => ⟨S4x4096x384, .f32⟩
  | .hbm, ⟨29, _⟩ => ⟨S4x4096x384, .f32⟩
  | .hbm, ⟨30, _⟩ => ⟨S4x4096x256, .f32⟩
  | .hbm, ⟨31, _⟩ => ⟨S4x4096x64, .f32⟩
  | .hbm, ⟨32, _⟩ => ⟨S4x4096x4, .f32⟩
  | .hbm, ⟨33, _⟩ => ⟨S4x4096x6x64, .f32⟩
  | .hbm, ⟨34, _⟩ => ⟨S_, .f32⟩
  | .hbm, ⟨35, _⟩ => ⟨S4x4096x6x16, .f32⟩
  | .hbm, ⟨36, _⟩ => ⟨S4x4096x6x80, .f32⟩
  | .hbm, ⟨37, _⟩ => ⟨S_, .f32⟩
  | .hbm, ⟨38, _⟩ => ⟨S4x4096x4, .f32⟩
  | .hbm, ⟨39, _⟩ => ⟨S4x4096x8, .f32⟩
  | .hbm, ⟨40, _⟩ => ⟨S4x4096x512, .f32⟩
  | .hbm, ⟨41, _⟩ => ⟨S16384x512, .f32⟩
  | .hbm, ⟨42, _⟩ => ⟨S4x4096x1536, .f32⟩
  | .hbm, ⟨43, _⟩ => ⟨S16384x1536, .f32⟩
  | .hbm, ⟨44, _⟩ => ⟨S16384x384, .f32⟩
  | .hbm, ⟨45, _⟩ => ⟨S4x384x4096, .f32⟩
  | .hbm, ⟨46, _⟩ => ⟨S4x384x4096, .f32⟩
  | .hbm, ⟨47, _⟩ => ⟨S4x64x4096, .f32⟩
  | .hbm, ⟨48, _⟩ => ⟨S_, .f32⟩
  | .hbm, ⟨49, _⟩ => ⟨S4x4096x384, .f32⟩
  | .hbm, ⟨50, _⟩ => ⟨S4x4096x384, .f32⟩
  | .hbm, ⟨51, _⟩ => ⟨S16384x384, .f32⟩
  | .hbm, ⟨52, _⟩ => ⟨S16384x384, .bf16⟩
  | .hbm, ⟨53, _⟩ => ⟨S16384x384, .f32⟩
  | .hbm, ⟨54, _⟩ => ⟨S16384x384, .bf16⟩
  | .hbm, ⟨55, _⟩ => ⟨S4x4096x480, .f32⟩
  | .hbm, ⟨56, _⟩ => ⟨S4x480x4096, .f32⟩
  | .hbm, ⟨57, _⟩ => ⟨S4x480x4096, .bf16⟩
  | .hbm, ⟨58, _⟩ => ⟨S16384x256, .f32⟩
  | .hbm, ⟨59, _⟩ => ⟨S16384x256, .bf16⟩
  | .hbm, ⟨60, _⟩ => ⟨S16384x64, .f32⟩
  | .hbm, ⟨61, _⟩ => ⟨S16384x64, .bf16⟩
  | .hbm, ⟨62, _⟩ => ⟨S_, .f32⟩
  | .hbm, ⟨63, _⟩ => ⟨S4x4096x8, .f32⟩
  | .hbm, ⟨64, _⟩ => ⟨S4x4096x8, .f32⟩
  | .hbm, ⟨65, _⟩ => ⟨S4x8x4096, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_4 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_cst_5 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩

abbrev nD : Nat := 1
abbrev τ : Topo := Topo.v7x

variable {F : FTy → Type} [FloatOps F]
-- ==== Kernel3.lean ====
abbrev S4x4096x1024 : Shape := ⟨3, ![4, 4096, 1024]⟩
abbrev S4x4096x256 : Shape := ⟨3, ![4, 4096, 256]⟩
abbrev S4x4096x384 : Shape := ⟨3, ![4, 4096, 384]⟩
abbrev S16384x384 : Shape := ⟨2, ![16384, 384]⟩
abbrev S1024x1024 : Shape := ⟨2, ![1024, 1024]⟩
abbrev S1024 : Shape := ⟨1, ![1024]⟩
abbrev S16384x1024 : Shape := ⟨2, ![16384, 1024]⟩
abbrev S16384x256 : Shape := ⟨2, ![16384, 256]⟩
abbrev S1x1024 : Shape := ⟨2, ![1, 1024]⟩
abbrev S1024x256 : Shape := ⟨2, ![1024, 256]⟩
abbrev S1024x384 : Shape := ⟨2, ![1024, 384]⟩
abbrev S256x1024 : Shape := ⟨2, ![256, 1024]⟩
abbrev S384x1024 : Shape := ⟨2, ![384, 1024]⟩
abbrev S1024x1 : Shape := ⟨2, ![1024, 1]⟩

abbrev nBuf : Space → Nat
  | .hbm => 12
  | .vmem => 12
  | .smem => 0
  | _ => 0

abbrev bufTy : (tb : Table) → Fin (tcTables nBuf tb) → BufTy
  | .hbm, ⟨0, _⟩ => ⟨S4x4096x1024, .f32⟩
  | .hbm, ⟨1, _⟩ => ⟨S4x4096x256, .bf16⟩
  | .hbm, ⟨2, _⟩ => ⟨S4x4096x384, .bf16⟩
  | .hbm, ⟨3, _⟩ => ⟨S16384x384, .bf16⟩
  | .hbm, ⟨4, _⟩ => ⟨S1024x1024, .f32⟩
  | .hbm, ⟨5, _⟩ => ⟨S1024, .f32⟩
  | .hbm, ⟨6, _⟩ => ⟨S16384x1024, .f32⟩
  | .hbm, ⟨7, _⟩ => ⟨S16384x256, .bf16⟩
  | .hbm, ⟨8, _⟩ => ⟨S16384x384, .bf16⟩
  | .hbm, ⟨9, _⟩ => ⟨S1024x1024, .bf16⟩
  | .hbm, ⟨10, _⟩ => ⟨S1x1024, .f32⟩
  | .hbm, ⟨11, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x256, .bf16⟩
  | .local _ .vmem, ⟨3, _⟩ => ⟨S1024x256, .bf16⟩
  | .local _ .vmem, ⟨4, _⟩ => ⟨S1024x384, .bf16⟩
  | .local _ .vmem, ⟨5, _⟩ => ⟨S1024x384, .bf16⟩
  | .local _ .vmem, ⟨6, _⟩ => ⟨S1024x384, .bf16⟩
  | .local _ .vmem, ⟨7, _⟩ => ⟨S1024x384, .bf16⟩
  | .local _ .vmem, ⟨8, _⟩ => ⟨S1024x1024, .bf16⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S4x4096x1024 : Shape := ⟨3, ![4, 4096, 1024]⟩
abbrev S4x4096x256 : Shape := ⟨3, ![4, 4096, 256]⟩
abbrev S4x4096x384 : Shape := ⟨3, ![4, 4096, 384]⟩
abbrev S16384x384 : Shape := ⟨2, ![16384, 384]⟩
abbrev S1024x1024 : Shape := ⟨2, ![1024, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S16384x1024 : Shape := ⟨2, ![16384, 1024]⟩

abbrev nBuf : Space → Nat
  | .hbm => 30
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x256, .bf16⟩
  | .hbm, ⟨2, _⟩ => ⟨S4x4096x384, .bf16⟩
  | .hbm, ⟨3, _⟩ => ⟨S16384x384, .bf16⟩
  | .hbm, ⟨4, _⟩ => ⟨S1024x1024, .f32⟩
  | .hbm, ⟨5, _⟩ => ⟨S1024, .f32⟩
  | .hbm, ⟨6, _⟩ => ⟨S4x4096x384, .bf16⟩
  | .hbm, ⟨7, _⟩ => ⟨S4x4096x256, .f32⟩
  | .hbm, ⟨8, _⟩ => ⟨S4x4096x384, .f32⟩
  | .hbm, ⟨9, _⟩ => ⟨S4x4096x384, .f32⟩
  | .hbm, ⟨10, _⟩ => ⟨S4x4096x1024, .f32⟩
  | .hbm, ⟨11, _⟩ => ⟨S4x4096x1024, .f32⟩
  | .hbm, ⟨12, _⟩ => ⟨S4x4096x1024, .f32⟩
  | .hbm, ⟨13, _⟩ => ⟨S4x4096x1024, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S4x4096x1, .f32⟩
  | .hbm, ⟨24, _⟩ => ⟨S4x4096x1024, .f32⟩
  | .hbm, ⟨25, _⟩ => ⟨S4x4096x1024, .f32⟩
  | .hbm, ⟨26, _⟩ => ⟨S1x1x1024, .f32⟩
  | .hbm, ⟨27, _⟩ => ⟨S4x4096x1024, .f32⟩
  | .hbm, ⟨28, _⟩ => ⟨S4x4096x1024, .f32⟩
  | .hbm, ⟨29, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Proof.Ret.Spec.lean ====
module
public import Idealize.ShloMosaic.Lib.Pointwise
@[expose] public section
noncomputable section
open Idealize.ShloMosaic
namespace Cert.Ret

/-- The state one chunk leaves for one batch row and one head, of the state before it. -/
def newS (k v : Fin 128 → Fin 64 → EReal) (dk : Fin 128 → Fin 64 → EReal) (ds : Fin 64 → Fin 64 → EReal) (s : Fin 64 → Fin 64 → EReal) :
    Fin 64 → Fin 64 → EReal :=
  fun d e => s d e * ds d e + ∑ j, (k j d * dk j d) * v j e

/-- What one chunk reads for one batch row and one head: inside the chunk, then across from the state before it. -/
def mixO (q k v : Fin 128 → Fin 64 → EReal) (din : Fin 128 → Fin 128 → EReal) (dq : Fin 128 → Fin 64 → EReal)
    (s : Fin 64 → Fin 64 → EReal) : Fin 128 → Fin 64 → EReal :=
  fun j e => (∑ l, ((∑ d, q j d * k l d) * din j l) * v l e) + (∑ d, q j d * s d e) * dq j e

/-- The mean of one head's row. -/
def meanO (o : Fin 64 → EReal) : EReal := Ideal.div (∑ x, o x) (Ideal.ofBits .f32 1115684864#32)

/-- One head's row, normalised over its own width. -/
def normO (o : Fin 64 → EReal) (e : Fin 64) : EReal :=
  (o e - meanO o) * Ideal.rsqrt (Ideal.div (∑ x, (o x - meanO o) * (o x - meanO o)) (Ideal.ofBits .f32 1115684864#32) + Ideal.ofBits .f32 897988541#32)

/-- The gate's factor. -/
def siluE (g : EReal) : EReal := g * Ideal.div 1 (1 + Ideal.exp (-g))

end Cert.Ret
-- ==== Proof.Ret.RefTrip.lean ====
module
public import proofs.«01_k».proof.Proof.Gen.ReferenceIdeal.Run
public import proofs.«01_k».proof.Proof.Ret.Spec
public import Idealize.ShloMosaic.Lib.Pointwise
public import Idealize.ShloMosaic.Lib.DynamicIndex
@[expose] public section
set_option maxRecDepth 16384
noncomputable section
open Idealize.ShloMosaic Idealize.ShloMosaic.TcCoe Idealize.SL.Sem
namespace Cert.Ret
open Cert.ReferenceIdeal Cert.ReferenceIdeal.Value

/-! The reference's carried buffers at their types, and one trip of its loop read at an index. -/

def cQ (V : Valuation τ sig (Elt Ideal)) : FVec Ideal S32x4x128x6x64 .f32 := V (Proc.devRef .tc main_v119_0)
def cK (V : Valuation τ sig (Elt Ideal)) : FVec Ideal S32x4x128x6x64 .f32 := V (Proc.devRef .tc main_v119_1)
def cV (V : Valuation τ sig (Elt Ideal)) : FVec Ideal S32x4x128x6x64 .f32 := V (Proc.devRef .tc main_v119_2)
def cDin (V : Valuation τ sig (Elt Ideal)) : FVec Ideal S6x128x128 .f32 := V (Proc.devRef .tc main_v119_3)
def cDq (V : Valuation τ sig (Elt Ideal)) : FVec Ideal S128x6 .f32 := V (Proc.devRef .tc main_v119_4)
def cDs (V : Valuation τ sig (Elt Ideal)) : FVec Ideal S6 .f32 := V (Proc.devRef .tc main_v119_5)
def cDk (V : Valuation τ sig (Elt Ideal)) : FVec Ideal S128x6 .f32 := V (Proc.devRef .tc main_v119_6)
def cN (V : Valuation τ sig (Elt Ideal)) : IVec S_ 32 := V (Proc.devRef .tc main_v119_7)
def cS (V : Valuation τ sig (Elt Ideal)) : FVec Ideal S4x6x64x64 .f32 := V (Proc.devRef .tc main_v119_8)
def cO (V : Valuation τ sig (Elt Ideal)) : FVec Ideal S32x4x128x6x64 .f32 := V (Proc.devRef .tc main_v119_9)

theorem word_toInt (n : Fin 32) : (BitVec.ofNat 32 n.val).toInt = (n.val : ℤ) := by revert n; decide

/-- The block a trip takes of a chunked array is chunk `n`. -/
theorem slice_read (n : Fin 32) (x : FVec Ideal S32x4x128x6x64 .f32) (start : Fin 5 → ℤ) (h1 : S32x4x128x6x64.Slices (fun _ => 0) S1x4x128x6x64)
    (h2 : S1x4x128x6x64.ShapeCasts S4x128x6x64) (hs : ∀ k, start k = ((![n.val, 0, 0, 0, 0] : Fin 5 → ℕ) k : ℤ))
    (b : Fin 4) (j : Fin 128) (h : Fin 6) (d : Fin 64) :
    shapeCast S4x128x6x64 (Host.dynamicSlice S1x4x128x6x64 x start h1) h2 (ix4 b j h d) = x (ix5 n b j h d) := by
  have hoff : S32x4x128x6x64.Slices ![n.val, 0, 0, 0, 0] S1x4x128x6x64 := by
    refine ⟨rfl, fun a => ?_⟩
    have := n.isLt
    fin_cases a <;> simp <;> omega
  rw [Host.dynamicSlice_eq_extractStridedSlice _ _ _ ![n.val, 0, 0, 0, 0] _ hoff hs]
  pointwise

/-- The trip's outputs are put at chunk `n`; the other chunks stay. -/
theorem update_read (n : Fin 32) (x : FVec Ideal S32x4x128x6x64 .f32) (u : FVec Ideal S1x4x128x6x64 .f32) (start : Fin 5 → ℤ)
    (h1 : S32x4x128x6x64.Slices (fun _ => 0) S1x4x128x6x64) (hs : ∀ k, start k = ((![n.val, 0, 0, 0, 0] : Fin 5 → ℕ) k : ℤ))
    (n' : Fin 32) (b : Fin 4) (j : Fin 128) (h : Fin 6) (d : Fin 64) :
    Host.dynamicUpdateSlice x u start h1 (ix5 n' b j h d) = if n' = n then u (ix5 0 b j h d) else x (ix5 n' b j h d) := by
  have hc : ∀ a : Fin 5, Host.clampedStart S32x4x128x6x64 S1x4x128x6x64 h1.1 start a = (![n.val, 0, 0, 0, 0] : Fin 5 → ℕ) a := by
    intro a
    refine Host.clampedStart_of_le _ _ _ _ (hs a) ?_
    have := n.isLt
    fin_cases a <;> simp <;> omega
  rw [Host.dynamicUpdateSlice_apply]
  by_cases e : n' = n
  · subst e
    rw [if_pos rfl, dif_pos (by
      intro a
      have := b.isLt; have := j.isLt; have := h.isLt; have := d.isLt
      rw [hc a]
      fin_cases a <;> simp <;> omega)]
    congr 1
    funext a
    apply Fin.ext
    fin_cases a
    · show n'.val - Host.clampedStart S32x4x128x6x64 S1x4x128x6x64 h1.1 start 0 = 0
      rw [hc 0]; exact Nat.sub_self _
    · show b.val - Host.clampedStart S32x4x128x6x64 S1x4x128x6x64 h1.1 start 1 = b.val
      rw [hc 1]; rfl
    · show j.val - Host.clampedStart S32x4x128x6x64 S1x4x128x6x64 h1.1 start 2 = j.val
      rw [hc 2]; rfl
    · show h.val - Host.clampedStart S32x4x128x6x64 S1x4x128x6x64 h1.1 start 3 = h.val
      rw [hc 3]; rfl
    · show d.val - Host.clampedStart S32x4x128x6x64 S1x4x128x6x64 h1.1 start 4 = d.val
      rw [hc 4]; rfl
  · rw [if_neg e, dif_neg (by
      intro hin
      have h0 := hin 0
      rw [hc 0] at h0
      apply e; apply Fin.ext
      have h1 : n.val ≤ n'.val := h0.1
      have h2 : n'.val < n.val + 1 := h0.2
      omega)]

variable (V : Valuation τ sig (Elt Ideal)) (n : Fin 32) (hn : cN V = fun _ => BitVec.ofNat 32 n.val)

include hn in
theorem start_n (k : Fin 5) :
    (((![V (Proc.devRef .tc main_v119_7), constantI S_ 32 0#32, constantI S_ 32 0#32, constantI S_ 32 0#32, constantI S_ 32 0#32] : Fin 5 → (⟨S_, .i32⟩ : BufTy).Contents (Elt Ideal))) k (Shape.Idx.first Gen.h_S_)).toInt
      = ((![n.val, 0, 0, 0, 0] : Fin 5 → ℕ) k : ℤ) := by
  fin_cases k
  · exact (congrArg BitVec.toInt (congrFun hn _)).trans (word_toInt n)
  all_goals rfl

include hn in
theorem trip_q (b : Fin 4) (j : Fin 128) (h : Fin 6) (d : Fin 64) :
    (res_main_while0b_v148 V : FVec Ideal S4x128x6x64 .f32) (ix4 b j h d) = cQ V (ix5 n b j h d) :=
  slice_read n _ _ _ _ (start_n V n hn) b j h d
include hn in
theorem trip_k (b : Fin 4) (j : Fin 128) (h : Fin 6) (d : Fin 64) :
    (res_main_while0b_v149 V : FVec Ideal S4x128x6x64 .f32) (ix4 b j h d) = cK V (ix5 n b j h d) :=
  slice_read n _ _ _ _ (start_n V n hn) b j h d
include hn in
theorem trip_v (b : Fin 4) (j : Fin 128) (h : Fin 6) (d : Fin 64) :
    (res_main_while0b_v150 V : FVec Ideal S4x128x6x64 .f32) (ix4 b j h d) = cV V (ix5 n b j h d) :=
  slice_read n _ _ _ _ (start_n V n hn) b j h d

include hn in
/-- One trip's state. -/
theorem trip_s (b : Fin 4) (h : Fin 6) (d e : Fin 64) :
    cS (STEP V) (ix4 b h d e) = newS (fun j d => cK V (ix5 n b j h d)) (fun j d => cV V (ix5 n b j h d)) (fun j _ => cDk V (ix2 j h)) (fun _ _ => cDs V (ix1 h))
      (fun d e => cS V (ix4 b h d e)) d e := by
  have hk := trip_k V n hn
  have hv := trip_v V n hn
  unfold newS
  rw [cS, STEP_main_v119_8]
  show (step_main_v119_8 V : FVec Ideal S4x6x64x64 .f32) _ = _
  unfold step_main_v119_8
  generalize (res_main_while0b_v149 V : FVec Ideal S4x128x6x64 .f32) = K at *
  generalize (res_main_while0b_v150 V : FVec Ideal S4x128x6x64 .f32) = W at *
  pointwise [id, cDs, cDk, cS]
  refine congrArg₂ (· + ·) rfl (Finset.sum_congr rfl fun x _ => ?_)
  exact congrArg₂ (· * ·) (congrArg₂ (· * ·) (hk b x h d) rfl) (hv b x h e)

include hn in
/-- One trip's outputs. -/
theorem trip_o (n' : Fin 32) (b : Fin 4) (j : Fin 128) (h : Fin 6) (e : Fin 64) :
    cO (STEP V) (ix5 n' b j h e) = if n' = n then mixO (fun j d => cQ V (ix5 n b j h d)) (fun j d => cK V (ix5 n b j h d)) (fun j d => cV V (ix5 n b j h d))
      (fun j l => cDin V (ix3 h j l)) (fun j _ => cDq V (ix2 j h)) (fun d e => cS V (ix4 b h d e)) j e else cO V (ix5 n' b j h e) := by
  have hq := trip_q V n hn
  have hk := trip_k V n hn
  have hv := trip_v V n hn
  rw [cO, STEP_main_v119_9]
  show (step_main_v119_9 V : FVec Ideal S32x4x128x6x64 .f32) _ = _
  unfold step_main_v119_9
  refine (update_read n _ _ _ _ (start_n V n hn) n' b j h e).trans ?_
  by_cases en : n' = n
  · rw [if_pos en, if_pos en]
    unfold mixO
    generalize (res_main_while0b_v148 V : FVec Ideal S4x128x6x64 .f32) = Q at *
    generalize (res_main_while0b_v149 V : FVec Ideal S4x128x6x64 .f32) = K at *
    generalize (res_main_while0b_v150 V : FVec Ideal S4x128x6x64 .f32) = W at *
    pointwise [cDin, cDq, cS]
    refine congrArg₂ (· + ·) (Finset.sum_congr rfl fun x _ => ?_) (congrArg₂ (· * ·) (Finset.sum_congr rfl fun x _ => ?_) rfl)
    · refine (mul_comm _ _).trans (congrArg₂ (· * ·) (congrArg₂ (· * ·) (Finset.sum_congr rfl fun y _ => ?_) rfl) (hv b x h e))
      exact congrArg₂ (· * ·) (hq b j h y) (hk b x h y)
    · exact (mul_comm _ _).trans (congrArg₂ (· * ·) (hq b j h x) rfl)
  · rw [if_neg en, if_neg en]; rfl

theorem step_cQ : cQ (STEP V) = cQ V := STEP_main_v119_0 V
theorem step_cK : cK (STEP V) = cK V := STEP_main_v119_1 V
theorem step_cV : cV (STEP V) = cV V := STEP_main_v119_2 V
theorem step_cDin : cDin (STEP V) = cDin V := STEP_main_v119_3 V
theorem step_cDq : cDq (STEP V) = cDq V := STEP_main_v119_4 V
theorem step_cDs : cDs (STEP V) = cDs V := STEP_main_v119_5 V
theorem step_cDk : cDk (STEP V) = cDk V := STEP_main_v119_6 V
theorem step_cN (k : ℕ) (hk : cN V = fun _ => BitVec.ofNat 32 k) : cN (STEP V) = fun _ => BitVec.ofNat 32 (k + 1) := by
  rw [cN, STEP_main_v119_7]
  show (step_main_v119_7 V : IVec S_ 32) = _
  funext i
  show (cN V i) + 1#32 = _
  rw [hk]
  show BitVec.ofNat 32 k + BitVec.ofNat 32 1 = _
  rw [← BitVec.ofNat_add]

/-- The reference's state of batch row `b`, head `h`, after `k` chunks, over what the loop carries. -/
def refS (V : Valuation τ sig (Elt Ideal)) (b : Fin 4) (h : Fin 6) : ℕ → Fin 64 → Fin 64 → EReal
  | 0 => fun d e => cS V (ix4 b h d e)
  | k + 1 => if hk : k < 32 then newS (fun j d => cK V (ix5 ⟨k, hk⟩ b j h d)) (fun j d => cV V (ix5 ⟨k, hk⟩ b j h d)) (fun j _ => cDk V (ix2 j h)) (fun _ _ => cDs V (ix1 h))
      (refS V b h k) else refS V b h k

/-- The reference's chunk `n` of outputs before the normalisation. -/
def refO (V : Valuation τ sig (Elt Ideal)) (n : Fin 32) (b : Fin 4) (h : Fin 6) : Fin 128 → Fin 64 → EReal :=
  mixO (fun j d => cQ V (ix5 n b j h d)) (fun j d => cK V (ix5 n b j h d)) (fun j d => cV V (ix5 n b j h d))
    (fun j l => cDin V (ix3 h j l)) (fun j _ => cDq V (ix2 j h)) (refS V b h n.val)

omit n in
/-- What the loop carries after `k` trips. -/
theorem iter (h0 : cN V = fun _ => BitVec.ofNat 32 0) (k : ℕ) (hk : k ≤ 32) :
    cN (STEP^[k] V) = (fun _ => BitVec.ofNat 32 k) ∧ cQ (STEP^[k] V) = cQ V ∧ cK (STEP^[k] V) = cK V ∧ cV (STEP^[k] V) = cV V
      ∧ cDin (STEP^[k] V) = cDin V ∧ cDq (STEP^[k] V) = cDq V ∧ cDs (STEP^[k] V) = cDs V ∧ cDk (STEP^[k] V) = cDk V
      ∧ (∀ b h d e, cS (STEP^[k] V) (ix4 b h d e) = refS V b h k d e)
      ∧ (∀ n : Fin 32, n.val < k → ∀ b j h e, cO (STEP^[k] V) (ix5 n b j h e) = refO V n b h j e) := by
  induction k with
  | zero => exact ⟨h0, rfl, rfl, rfl, rfl, rfl, rfl, rfl, fun _ _ _ _ => rfl, fun n hn => absurd hn (Nat.not_lt_zero _)⟩
  | succ k ih =>
    obtain ⟨eN, eQ, eK, eV, eDin, eDq, eDs, eDk, eS, eO⟩ := ih (by omega)
    rw [Function.iterate_succ_apply']
    have hk' : k < 32 := by omega
    refine ⟨step_cN _ k eN, (step_cQ _).trans eQ, (step_cK _).trans eK, (step_cV _).trans eV, (step_cDin _).trans eDin, (step_cDq _).trans eDq,
      (step_cDs _).trans eDs, (step_cDk _).trans eDk, fun b h d e => ?_, fun n hn b j h e => ?_⟩
    · rw [trip_s _ ⟨k, hk'⟩ eN b h d e, eK, eV, eDk, eDs, refS, dif_pos hk']
      simp only [eS]
    · rw [trip_o _ ⟨k, hk'⟩ eN n b j h e]
      by_cases en : n = ⟨k, hk'⟩
      · subst en
        rw [if_pos rfl, eQ, eK, eV, eDin, eDq, refO]
        simp only [eS]
      · rw [if_neg en]
        refine eO n ?_ b j h e
        have : n.val ≠ k := fun h => en (Fin.ext h)
        omega

/-- The first result over the loop's last contents. -/
theorem out_read (b : Fin 4) (p : Fin 4096) (l : Fin 384) :
    (out_main_v147 V : FVec Ideal S4x4096x384 .bf16) (ix3 b p l)
      = normO (fun e => cO V (ix5 ⟨p.val / 128, by omega⟩ b ⟨p.val % 128, by omega⟩ ⟨l.val / 64, by omega⟩ e)) ⟨l.val % 64, by omega⟩
        * (V (Proc.devRef .tc main_arg2) : FVec Ideal S384 .f32) (ix1 l)
        * siluE ((V (Proc.devRef .tc main_arg0) : FVec Ideal S4x4096x1536 .f32) (ix3 b p ⟨1152 + l.val, by omega⟩)) := by
  pointwise [out_main_v147]
  unfold normO meanO siluE cO
  rfl

end Cert.Ret
-- ==== Proof.Ret.KerBody.lean ====
module
public import proofs.«01_k».proof.Proof.Gen.KernelIdeal.Frame
public import proofs.«01_k».proof.Proof.Ret.Spec
public import Idealize.ShloMosaic.Lib.Pointwise
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
namespace Cert.Ret
open Cert.KernelIdeal Cert.KernelIdeal.Gen

/-! What one grid point of the kernel leaves in the carried state and in its block of outputs, read at an index. -/

/-- The rotated queries of the point's block. -/
def kQ (x0 : Vec Ideal S1x128x1536 .f32) (x2 x3 : Vec Ideal S128x128 .f32) : FVec Ideal S128x384 .f32 :=
  k0_pay14 (k0_pay4 (View.ld x0 (Rect.unit ![0, 0, 0] ![1, 128, 384] inb_S1x128x1536_S1x128x384_0_0_0))) (k0_pay9 x3)
    (k0_pay10 (View.ld x0 (Rect.unit ![0, 0, 0] ![1, 128, 384] inb_S1x128x1536_S1x128x384_0_0_0)) x2) k0_pay11 k0_pay12 k0_pay13
/-- The rotated and scaled keys of the point's block. -/
def kK (x0 : Vec Ideal S1x128x1536 .f32) (x2 x3 : Vec Ideal S128x128 .f32) : FVec Ideal S128x384 .f32 :=
  k0_pay19 (k0_pay5 (View.ld x0 (Rect.unit ![0, 0, 384] ![1, 128, 384] inb_S1x128x1536_S1x128x384_0_0_384))) (k0_pay9 x3)
    (k0_pay15 (k0_pay5 (View.ld x0 (Rect.unit ![0, 0, 384] ![1, 128, 384] inb_S1x128x1536_S1x128x384_0_0_384))) (k0_pay8 x2)) k0_pay16
    (k0_pay17 (k0_pay5 (View.ld x0 (Rect.unit ![0, 0, 384] ![1, 128, 384] inb_S1x128x1536_S1x128x384_0_0_384))))
    (k0_pay18 (k0_pay5 (View.ld x0 (Rect.unit ![0, 0, 384] ![1, 128, 384] inb_S1x128x1536_S1x128x384_0_0_384))))
/-- The values of the point's block. -/
def kV (x0 : Vec Ideal S1x128x1536 .f32) : FVec Ideal S128x384 .f32 :=
  k0_pay6 (View.ld x0 (Rect.unit ![0, 0, 768] ![1, 128, 384] inb_S1x128x1536_S1x128x384_0_0_768))
/-- The gate's factor of the point's block. -/
def kG (x0 : Vec Ideal S1x128x1536 .f32) (x8 : Vec Ideal S1x384 .f32) : FVec Ideal S128x384 .f32 :=
  k0_pay25 (k0_pay7 (View.ld x0 (Rect.unit ![0, 0, 1152] ![1, 128, 384] inb_S1x128x1536_S1x128x384_0_0_1152))) x8

/-- Lane `d` of head `h`. -/
abbrev ln (h : Fin 6) (d : Fin 64) : Fin 384 := ⟨64 * h.val + d.val, by omega⟩

/-- The state a point leaves, of the state before it. -/
def kS (x0 : Vec Ideal S1x128x1536 .f32) (x2 x3 : Vec Ideal S128x128 .f32) (x6 : Vec Ideal S128x384 .f32) (x7 s : Vec Ideal S6x64x64 .f32)
    (h : Fin 6) : Fin 64 → Fin 64 → EReal :=
  newS (fun j d => kK x0 x2 x3 (ix2 j (ln h d))) (fun j d => kV x0 (ix2 j (ln h d))) (fun j d => x6 (ix2 j (ln h d))) (fun d e => x7 (ix3 h d e))
    (fun d e => s (ix3 h d e))
/-- The outputs of a point before the normalisation. -/
def kO (x0 : Vec Ideal S1x128x1536 .f32) (x2 x3 : Vec Ideal S128x128 .f32) (x4 : Vec Ideal S6x128x128 .f32) (x5 : Vec Ideal S128x384 .f32)
    (s : Vec Ideal S6x64x64 .f32) (h : Fin 6) : Fin 128 → Fin 64 → EReal :=
  mixO (fun j d => kQ x0 x2 x3 (ix2 j (ln h d))) (fun j d => kK x0 x2 x3 (ix2 j (ln h d))) (fun j d => kV x0 (ix2 j (ln h d)))
    (fun j l => x4 (ix3 h j l)) (fun j d => x5 (ix2 j (ln h d))) (fun d e => s (ix3 h d e))

set_option maxHeartbeats 1000000 in
theorem soutA (c : Dev nD) (i : grid0.Coords) (arg2 : Memref sig .tc .vmem S1x128x1536 .f32) (harg2 : arg2.IsWhole) (arg3 : Memref sig .tc .vmem S1x6x64x64 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S6x128x128 .f32) (harg6 : arg6.IsWhole) (arg7 : Memref sig .tc .vmem S128x384 .f32) (harg7 : arg7.IsWhole) (arg8 : Memref sig .tc .vmem S128x384 .f32) (harg8 : arg8.IsWhole) (arg9 : Memref sig .tc .vmem S6x64x64 .f32) (harg9 : arg9.IsWhole) (arg10 : Memref sig .tc .vmem S1x384 .f32) (harg10 : arg10.IsWhole) (arg11 : Memref sig .tc .vmem S1x128x384 .bf16) (harg11 : arg11.IsWhole) (arg12 : Memref sig .tc .vmem S1x6x64x64 .f32) (harg12 : arg12.IsWhole) (arg13 : Memref sig .tc .vmem S6x64x64 .f32) (harg13 : arg13.IsWhole) (hc0 : cond0_0 i) (hc1 : ¬cond0_1 i)
    (x0 : Vec Ideal S1x128x1536 .f32) (x1 : Vec Ideal S1x6x64x64 .f32) (x2 : Vec Ideal S128x128 .f32) (x3 : Vec Ideal S128x128 .f32) (x4 : Vec Ideal S6x128x128 .f32) (x5 : Vec Ideal S128x384 .f32) (x6 : Vec Ideal S128x384 .f32) (x7 : Vec Ideal S6x64x64 .f32) (x8 : Vec Ideal S1x384 .f32) (y : S6x64x64.Idx) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 y = kS x0 x2 x3 x6 x7 (k0_pay3 x1) (y 0) (y 1) (y 2) := by
  frame_open
  simp (disch := decide) only [↓ View.readCov_skip, ↓ View.readCov_cons_toLoadRect, ↓ View.readCov_fill]
  frame_out
  refine View.canon_append_of_piecesOf (Val := Elt Ideal) (s := S6x64x64) (e := .f32) (fun y : S6x64x64.Idx => (kS x0 x2 x3 x6 x7 (k0_pay3 x1) (y 0) (y 1) (y 2) : EReal)) [_] [_, _, _, _, _, _]
    ⟨?p0, ?p1, ?p2, ?p3, ?p4, ?p5, trivial⟩ y (View.cover_of_tiledL (s := S6x64x64) _ S1x64x64.size (by sl_kernel_rfl) y)
  case p0 =>
    intro x
    have he : (Rect.unit (s := S6x64x64) ![5, 0, 0] ![1, 64, 64] inb_S6x64x64_S1x64x64_5_0_0).emb x = ix3 (5 : Fin 6) (x 1) (x 2) := by
      funext a; apply Fin.ext
      have h0 : (x 0).val < 1 := (x 0).isLt
      match a with
      | ⟨0, _⟩ => show 5 + 1 * (x 0).val = 5; omega
      | ⟨1, _⟩ => show 0 + 1 * (x 1).val = (x 1).val; omega
      | ⟨2, _⟩ => show 0 + 1 * (x 2).val = (x 2).val; omega
    simp only [he]
    show _ = kS x0 x2 x3 x6 x7 (k0_pay3 x1) (5 : Fin 6) (x 1) (x 2)
    unfold kS newS kK kV
    generalize k0_pay3 (F := Ideal) x1 = s0
    pointwise [k0_pay20, k0_pay21, k0_pay22, k0_pay23, k0_pay24, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
    generalize k0_pay19 (F := Ideal) _ _ _ _ _ _ = K
    generalize k0_pay6 (F := Ideal) _ = W
    rfl
  case p1 =>
    intro x
    have he : (Rect.unit (s := S6x64x64) ![4, 0, 0] ![1, 64, 64] inb_S6x64x64_S1x64x64_4_0_0).emb x = ix3 (4 : Fin 6) (x 1) (x 2) := by
      funext a; apply Fin.ext
      have h0 : (x 0).val < 1 := (x 0).isLt
      match a with
      | ⟨0, _⟩ => show 4 + 1 * (x 0).val = 4; omega
      | ⟨1, _⟩ => show 0 + 1 * (x 1).val = (x 1).val; omega
      | ⟨2, _⟩ => show 0 + 1 * (x 2).val = (x 2).val; omega
    simp only [he]
    show _ = kS x0 x2 x3 x6 x7 (k0_pay3 x1) (4 : Fin 6) (x 1) (x 2)
    unfold kS newS kK kV
    generalize k0_pay3 (F := Ideal) x1 = s0
    pointwise [k0_pay20, k0_pay21, k0_pay22, k0_pay23, k0_pay24, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
    generalize k0_pay19 (F := Ideal) _ _ _ _ _ _ = K
    generalize k0_pay6 (F := Ideal) _ = W
    rfl
  case p2 =>
    intro x
    have he : (Rect.unit (s := S6x64x64) ![3, 0, 0] ![1, 64, 64] inb_S6x64x64_S1x64x64_3_0_0).emb x = ix3 (3 : Fin 6) (x 1) (x 2) := by
      funext a; apply Fin.ext
      have h0 : (x 0).val < 1 := (x 0).isLt
      match a with
      | ⟨0, _⟩ => show 3 + 1 * (x 0).val = 3; omega
      | ⟨1, _⟩ => show 0 + 1 * (x 1).val = (x 1).val; omega
      | ⟨2, _⟩ => show 0 + 1 * (x 2).val = (x 2).val; omega
    simp only [he]
    show _ = kS x0 x2 x3 x6 x7 (k0_pay3 x1) (3 : Fin 6) (x 1) (x 2)
    unfold kS newS kK kV
    generalize k0_pay3 (F := Ideal) x1 = s0
    pointwise [k0_pay20, k0_pay21, k0_pay22, k0_pay23, k0_pay24, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
    generalize k0_pay19 (F := Ideal) _ _ _ _ _ _ = K
    generalize k0_pay6 (F := Ideal) _ = W
    rfl
  case p3 =>
    intro x
    have he : (Rect.unit (s := S6x64x64) ![2, 0, 0] ![1, 64, 64] inb_S6x64x64_S1x64x64_2_0_0).emb x = ix3 (2 : Fin 6) (x 1) (x 2) := by
      funext a; apply Fin.ext
      have h0 : (x 0).val < 1 := (x 0).isLt
      match a with
      | ⟨0, _⟩ => show 2 + 1 * (x 0).val = 2; omega
      | ⟨1, _⟩ => show 0 + 1 * (x 1).val = (x 1).val; omega
      | ⟨2, _⟩ => show 0 + 1 * (x 2).val = (x 2).val; omega
    simp only [he]
    show _ = kS x0 x2 x3 x6 x7 (k0_pay3 x1) (2 : Fin 6) (x 1) (x 2)
    unfold kS newS kK kV
    generalize k0_pay3 (F := Ideal) x1 = s0
    pointwise [k0_pay20, k0_pay21, k0_pay22, k0_pay23, k0_pay24, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
    generalize k0_pay19 (F := Ideal) _ _ _ _ _ _ = K
    generalize k0_pay6 (F := Ideal) _ = W
    rfl
  case p4 =>
    intro x
    have he : (Rect.unit (s := S6x64x64) ![1, 0, 0] ![1, 64, 64] inb_S6x64x64_S1x64x64_1_0_0).emb x = ix3 (1 : Fin 6) (x 1) (x 2) := by
      funext a; apply Fin.ext
      have h0 : (x 0).val < 1 := (x 0).isLt
      match a with
      | ⟨0, _⟩ => show 1 + 1 * (x 0).val = 1; omega
      | ⟨1, _⟩ => show 0 + 1 * (x 1).val = (x 1).val; omega
      | ⟨2, _⟩ => show 0 + 1 * (x 2).val = (x 2).val; omega
    simp only [he]
    show _ = kS x0 x2 x3 x6 x7 (k0_pay3 x1) (1 : Fin 6) (x 1) (x 2)
    unfold kS newS kK kV
    generalize k0_pay3 (F := Ideal) x1 = s0
    pointwise [k0_pay20, k0_pay21, k0_pay22, k0_pay23, k0_pay24, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
    generalize k0_pay19 (F := Ideal) _ _ _ _ _ _ = K
    generalize k0_pay6 (F := Ideal) _ = W
    rfl
  case p5 =>
    intro x
    have he : (Rect.unit (s := S6x64x64) ![0, 0, 0] ![1, 64, 64] inb_S6x64x64_S1x64x64_0_0_0).emb x = ix3 (0 : Fin 6) (x 1) (x 2) := by
      funext a; apply Fin.ext
      have h0 : (x 0).val < 1 := (x 0).isLt
      match a with
      | ⟨0, _⟩ => show 0 + 1 * (x 0).val = 0; omega
      | ⟨1, _⟩ => show 0 + 1 * (x 1).val = (x 1).val; omega
      | ⟨2, _⟩ => show 0 + 1 * (x 2).val = (x 2).val; omega
    simp only [he]
    show _ = kS x0 x2 x3 x6 x7 (k0_pay3 x1) (0 : Fin 6) (x 1) (x 2)
    unfold kS newS kK kV
    generalize k0_pay3 (F := Ideal) x1 = s0
    pointwise [k0_pay20, k0_pay21, k0_pay22, k0_pay23, k0_pay24, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
    generalize k0_pay19 (F := Ideal) _ _ _ _ _ _ = K
    generalize k0_pay6 (F := Ideal) _ = W
    have el : ∀ d : Fin 64, ln (0 : Fin 6) d = ⟨d.val, by omega⟩ := fun d => Fin.ext (Nat.zero_add _)
    show _ = _ + ∑ j : Fin 128, K (ix2 j (ln 0 (x 1))) * x6 (ix2 j (ln 0 (x 1))) * W (ix2 j (ln 0 (x 2)))
    set_option backward.isDefEq.respectTransparency false in simp only [el]

set_option maxHeartbeats 1000000 in
theorem soutB (c : Dev nD) (i : grid0.Coords) (arg2 : Memref sig .tc .vmem S1x128x1536 .f32) (harg2 : arg2.IsWhole) (arg3 : Memref sig .tc .vmem S1x6x64x64 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S6x128x128 .f32) (harg6 : arg6.IsWhole) (arg7 : Memref sig .tc .vmem S128x384 .f32) (harg7 : arg7.IsWhole) (arg8 : Memref sig .tc .vmem S128x384 .f32) (harg8 : arg8.IsWhole) (arg9 : Memref sig .tc .vmem S6x64x64 .f32) (harg9 : arg9.IsWhole) (arg10 : Memref sig .tc .vmem S1x384 .f32) (harg10 : arg10.IsWhole) (arg11 : Memref sig .tc .vmem S1x128x384 .bf16) (harg11 : arg11.IsWhole) (arg12 : Memref sig .tc .vmem S1x6x64x64 .f32) (harg12 : arg12.IsWhole) (arg13 : Memref sig .tc .vmem S6x64x64 .f32) (harg13 : arg13.IsWhole) (hc0 : ¬cond0_0 i) (hc1 : ¬cond0_1 i)
    (x0 : Vec Ideal S1x128x1536 .f32) (x1 : Vec Ideal S1x6x64x64 .f32) (x2 : Vec Ideal S128x128 .f32) (x3 : Vec Ideal S128x128 .f32) (x4 : Vec Ideal S6x128x128 .f32) (x5 : Vec Ideal S128x384 .f32) (x6 : Vec Ideal S128x384 .f32) (x7 : Vec Ideal S6x64x64 .f32) (x8 : Vec Ideal S1x384 .f32) (xs0 : Vec Ideal S6x64x64 .f32) (y : S6x64x64.Idx) :
    sout0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 y = kS x0 x2 x3 x6 x7 xs0 (y 0) (y 1) (y 2) := by
  frame_out
  unfold kS newS kK kV
  canon_tiles x h
  case piece0 =>
    pointwise [k0_pay20, k0_pay21, k0_pay22, k0_pay23, k0_pay24, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
    generalize k0_pay19 (F := Ideal) _ _ _ _ _ _ = K
    generalize k0_pay6 (F := Ideal) _ = W
    obtain rfl : y = ix3 ((5 : Fin 6)) (x 1) (x 2) := by
      idx_ext
    rfl
  case piece1 =>
    pointwise [k0_pay20, k0_pay21, k0_pay22, k0_pay23, k0_pay24, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
    generalize k0_pay19 (F := Ideal) _ _ _ _ _ _ = K
    generalize k0_pay6 (F := Ideal) _ = W
    obtain rfl : y = ix3 ((4 : Fin 6)) (x 1) (x 2) := by
      idx_ext
    rfl
  case piece2 =>
    pointwise [k0_pay20, k0_pay21, k0_pay22, k0_pay23, k0_pay24, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
    generalize k0_pay19 (F := Ideal) _ _ _ _ _ _ = K
    generalize k0_pay6 (F := Ideal) _ = W
    obtain rfl : y = ix3 ((3 : Fin 6)) (x 1) (x 2) := by
      idx_ext
    rfl
  case piece3 =>
    pointwise [k0_pay20, k0_pay21, k0_pay22, k0_pay23, k0_pay24, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
    generalize k0_pay19 (F := Ideal) _ _ _ _ _ _ = K
    generalize k0_pay6 (F := Ideal) _ = W
    obtain rfl : y = ix3 ((2 : Fin 6)) (x 1) (x 2) := by
      idx_ext
    rfl
  case piece4 =>
    pointwise [k0_pay20, k0_pay21, k0_pay22, k0_pay23, k0_pay24, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
    generalize k0_pay19 (F := Ideal) _ _ _ _ _ _ = K
    generalize k0_pay6 (F := Ideal) _ = W
    obtain rfl : y = ix3 ((1 : Fin 6)) (x 1) (x 2) := by
      idx_ext
    rfl
  case piece5 =>
    pointwise [k0_pay20, k0_pay21, k0_pay22, k0_pay23, k0_pay24, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
    generalize k0_pay19 (F := Ideal) _ _ _ _ _ _ = K
    generalize k0_pay6 (F := Ideal) _ = W
    obtain rfl : y = ix3 ((0 : Fin 6)) (x 1) (x 2) := by
      idx_ext
    have el : ∀ d : Fin 64, ln (0 : Fin 6) d = ⟨d.val, by omega⟩ := fun d => Fin.ext (Nat.zero_add _)
    show _ = _ + ∑ j : Fin 128, K (ix2 j (ln 0 (x 1))) * x6 (ix2 j (ln 0 (x 1))) * W (ix2 j (ln 0 (x 2)))
    set_option backward.isDefEq.respectTransparency false in simp only [el]

set_option maxHeartbeats 1000000 in
theorem soutC (c : Dev nD) (i : grid0.Coords) (arg2 : Memref sig .tc .vmem S1x128x1536 .f32) (harg2 : arg2.IsWhole) (arg3 : Memref sig .tc .vmem S1x6x64x64 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S6x128x128 .f32) (harg6 : arg6.IsWhole) (arg7 : Memref sig .tc .vmem S128x384 .f32) (harg7 : arg7.IsWhole) (arg8 : Memref sig .tc .vmem S128x384 .f32) (harg8 : arg8.IsWhole) (arg9 : Memref sig .tc .vmem S6x64x64 .f32) (harg9 : arg9.IsWhole) (arg10 : Memref sig .tc .vmem S1x384 .f32) (harg10 : arg10.IsWhole) (arg11 : Memref sig .tc .vmem S1x128x384 .bf16) (harg11 : arg11.IsWhole) (arg12 : Memref sig .tc .vmem S1x6x64x64 .f32) (harg12 : arg12.IsWhole) (arg13 : Memref sig .tc .vmem S6x64x64 .f32) (harg13 : arg13.IsWhole) (hc0 : ¬cond0_0 i) (hc1 : cond0_1 i)
    (x0 : Vec Ideal S1x128x1536 .f32) (x1 : Vec Ideal S1x6x64x64 .f32) (x2 : Vec Ideal S128x128 .f32) (x3 : Vec Ideal S128x128 .f32) (x4 : Vec Ideal S6x128x128 .f32) (x5 : Vec Ideal S128x384 .f32) (x6 : Vec Ideal S128x384 .f32) (x7 : Vec Ideal S6x64x64 .f32) (x8 : Vec Ideal S1x384 .f32) (xs0 : Vec Ideal S6x64x64 .f32) (y : S6x64x64.Idx) :
    sout0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 y = kS x0 x2 x3 x6 x7 xs0 (y 0) (y 1) (y 2) := by
  frame_out
  unfold kS newS kK kV
  canon_tiles x h
  case piece0 =>
    pointwise [k0_pay20, k0_pay21, k0_pay22, k0_pay23, k0_pay24, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
    generalize k0_pay19 (F := Ideal) _ _ _ _ _ _ = K
    generalize k0_pay6 (F := Ideal) _ = W
    obtain rfl : y = ix3 ((5 : Fin 6)) (x 1) (x 2) := by
      idx_ext
    rfl
  case piece1 =>
    pointwise [k0_pay20, k0_pay21, k0_pay22, k0_pay23, k0_pay24, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
    generalize k0_pay19 (F := Ideal) _ _ _ _ _ _ = K
    generalize k0_pay6 (F := Ideal) _ = W
    obtain rfl : y = ix3 ((4 : Fin 6)) (x 1) (x 2) := by
      idx_ext
    rfl
  case piece2 =>
    pointwise [k0_pay20, k0_pay21, k0_pay22, k0_pay23, k0_pay24, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
    generalize k0_pay19 (F := Ideal) _ _ _ _ _ _ = K
    generalize k0_pay6 (F := Ideal) _ = W
    obtain rfl : y = ix3 ((3 : Fin 6)) (x 1) (x 2) := by
      idx_ext
    rfl
  case piece3 =>
    pointwise [k0_pay20, k0_pay21, k0_pay22, k0_pay23, k0_pay24, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
    generalize k0_pay19 (F := Ideal) _ _ _ _ _ _ = K
    generalize k0_pay6 (F := Ideal) _ = W
    obtain rfl : y = ix3 ((2 : Fin 6)) (x 1) (x 2) := by
      idx_ext
    rfl
  case piece4 =>
    pointwise [k0_pay20, k0_pay21, k0_pay22, k0_pay23, k0_pay24, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
    generalize k0_pay19 (F := Ideal) _ _ _ _ _ _ = K
    generalize k0_pay6 (F := Ideal) _ = W
    obtain rfl : y = ix3 ((1 : Fin 6)) (x 1) (x 2) := by
      idx_ext
    rfl
  case piece5 =>
    pointwise [k0_pay20, k0_pay21, k0_pay22, k0_pay23, k0_pay24, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
    generalize k0_pay19 (F := Ideal) _ _ _ _ _ _ = K
    generalize k0_pay6 (F := Ideal) _ = W
    obtain rfl : y = ix3 ((0 : Fin 6)) (x 1) (x 2) := by
      idx_ext
    have el : ∀ d : Fin 64, ln (0 : Fin 6) d = ⟨d.val, by omega⟩ := fun d => Fin.ext (Nat.zero_add _)
    show _ = _ + ∑ j : Fin 128, K (ix2 j (ln 0 (x 1))) * x6 (ix2 j (ln 0 (x 1))) * W (ix2 j (ln 0 (x 2)))
    set_option backward.isDefEq.respectTransparency false in simp only [el]

end Cert.Ret
-- ==== Proof.Ret.KerRead.lean ====
module
public import proofs.«01_k».proof.Proof.Ret.KerBody
public import Idealize.ShloMosaic.Lib.Pointwise
@[expose] public section
set_option maxRecDepth 16384
noncomputable section
open Idealize.ShloMosaic Idealize.ShloMosaic.TcCoe Idealize.SL.Sem
open Cert.KernelIdeal Cert.KernelIdeal.Gen
namespace Cert.Ret

/-- The other lane of a rotated pair. -/
def sw (l : Fin 384) : Fin 384 := ⟨if l.val % 64 < 32 then l.val + 32 else l.val - 32, by split <;> omega⟩
/-- A lane within its group of 128. -/
def md (l : Fin 384) : Fin 128 := ⟨l.val % 128, by omega⟩

theorem mask16 (j l : Fin 128) : k0_pay16 (ix2 j l) = if l.val % 64 < 32 then 1#1 else 0#1 := by
  pointwise [k0_pay16]
  revert l
  decide +kernel

theorem mask14 (j l : Fin 128) : IntOp.cmpi .slt (Scalar.select (k0_pay12 (ix2 j l)) (IntOp.addi (k0_pay11 (ix2 j l)) (k0_pay13 (ix2 j l))) (k0_pay11 (ix2 j l))) 32#32 = if l.val % 64 < 32 then 1#1 else 0#1 := by
  pointwise [k0_pay12, k0_pay11, k0_pay13]
  revert l
  decide +kernel

theorem sel_ite (p : Prop) [Decidable p] (a b : EReal) : Scalar.select (if p then 1#1 else 0#1) a b = if p then a else b := by
  split <;> rfl

/-- Three groups of 128 lanes put side by side: the rotation lane by lane. -/
theorem rot3 (X : Fin 384 → EReal) (C S : Fin 128 → EReal) (l : Fin 384) :
    ((X l * if h : l.val < 128 then C ⟨l.val, h⟩ else if h : l.val - 128 < 128 then C ⟨l.val - 128, h⟩ else C ⟨l.val - 128 - 128, by omega⟩) +
      (if h : l.val < 128 then
          if l.val % 64 < 32 then X ⟨(l.val + 128 - 96) % 128, by omega⟩ else X ⟨(l.val + 128 - 32) % 128, by omega⟩
        else if h : l.val - 128 < 128 then
          if (l.val - 128) % 64 < 32 then X ⟨128 + (l.val - 128 + 128 - 96) % 128, by omega⟩ else X ⟨128 + (l.val - 128 + 128 - 32) % 128, by omega⟩
        else
          if (l.val - 128 - 128) % 64 < 32 then X ⟨256 + (l.val - 128 - 128 + 128 - 96) % 128, by omega⟩
          else X ⟨256 + (l.val - 128 - 128 + 128 - 32) % 128, by omega⟩) *
        if h : l.val < 128 then S ⟨l.val, h⟩ else if h : l.val - 128 < 128 then S ⟨l.val - 128, h⟩ else S ⟨l.val - 128 - 128, by omega⟩) =
      X l * C (md l) + X (sw l) * S (md l) := by
  have hl := l.isLt
  have hm : ∀ (n : ℕ) (hn : n < 128), n = l.val % 128 → (⟨n, hn⟩ : Fin 128) = md l := fun n hn h => Fin.ext h
  have hs : ∀ (n : ℕ) (hn : n < 384), n = (if l.val % 64 < 32 then l.val + 32 else l.val - 32) → (⟨n, hn⟩ : Fin 384) = sw l := fun n hn h => Fin.ext h
  by_cases h1 : l.val < 128
  · simp only [dif_pos h1]
    rw [hm l.val _ (by omega)]
    split
    · rw [hs _ _ (by split <;> omega)]
    · rw [hs _ _ (by split <;> omega)]
  · simp only [dif_neg h1]
    by_cases h2 : l.val - 128 < 128
    · simp only [dif_pos h2]
      rw [hm (l.val - 128) _ (by omega)]
      split
      · rw [hs _ _ (by split <;> omega)]
      · rw [hs _ _ (by split <;> omega)]
    · simp only [dif_neg h2]
      rw [hm (l.val - 128 - 128) _ (by omega)]
      split
      · rw [hs _ _ (by split <;> omega)]
      · rw [hs _ _ (by split <;> omega)]

theorem kQ_read (x0 : Vec Ideal S1x128x1536 .f32) (x2 x3 : Vec Ideal S128x128 .f32) (j : Fin 128) (l : Fin 384) :
    kQ x0 x2 x3 (ix2 j l) = x0 (ix3 0 j ⟨l.val, by omega⟩) * x2 (ix2 j (md l)) + x0 (ix3 0 j ⟨(sw l).val, by have := (sw l).isLt; omega⟩) * x3 (ix2 j (md l)) := by
  unfold kQ
  pointwise [k0_pay14, k0_pay4, k0_pay9, k0_pay10, k0_pay8]
  simp only [mask14, sel_ite]
  exact rot3 (fun l => x0 (ix3 0 j ⟨l.val, by omega⟩)) (fun l => x2 (ix2 j l)) (fun l => x3 (ix2 j l)) l

theorem kK_read (x0 : Vec Ideal S1x128x1536 .f32) (x2 x3 : Vec Ideal S128x128 .f32) (j : Fin 128) (l : Fin 384) :
    kK x0 x2 x3 (ix2 j l) = (x0 (ix3 0 j ⟨384 + l.val, by omega⟩) * x2 (ix2 j (md l)) + x0 (ix3 0 j ⟨384 + (sw l).val, by have := (sw l).isLt; omega⟩) * x3 (ix2 j (md l)))
      * Ideal.ofBits .f32 0x3E000000#32 := by
  unfold kK
  pointwise [k0_pay19, k0_pay17, k0_pay18, k0_pay15, k0_pay5, k0_pay9, k0_pay8]
  simp only [mask16, sel_ite]
  exact congrArg (· * Ideal.ofBits .f32 0x3E000000#32) (rot3 (fun l => x0 (ix3 0 j ⟨384 + l.val, by omega⟩)) (fun l => x2 (ix2 j l)) (fun l => x3 (ix2 j l)) l)

theorem kG_read (x0 : Vec Ideal S1x128x1536 .f32) (x8 : Vec Ideal S1x384 .f32) (j : Fin 128) (l : Fin 384) :
   kG x0 x8 (ix2 j l) = siluE (x0 (ix3 0 j ⟨1152 + l.val, by omega⟩)) * x8 (ix2 0 l) := by
  unfold kG
  pointwise [k0_pay25, k0_pay7]
  rfl

theorem kV_read (x0 : Vec Ideal S1x128x1536 .f32) (j : Fin 128) (l : Fin 384) :
    kV x0 (ix2 j l) = x0 (ix3 0 j ⟨768 + l.val, by omega⟩) := by
  unfold kV
  pointwise [k0_pay6]

theorem p3_read (x1 : Vec Ideal S1x6x64x64 .f32) (h : Fin 6) (d e : Fin 64) :
    (k0_pay3 x1 : FVec Ideal S6x64x64 .f32) (ix3 h d e) = x1 (ix4 0 h d e) := by
  pointwise [k0_pay3]

end Cert.Ret
-- ==== Proof.Ret.KerTab.lean ====
module
public import proofs.«01_k».proof.Proof.Gen.KernelIdeal.Value
public import proofs.«01_k».proof.Proof.Ret.KerRead
public import Idealize.ShloMosaic.Lib.Pointwise
public import Idealize.ShloMosaic.Lib.Claim
public import Idealize.ShloMosaic.Lib.Pipeline.ValueKit
@[expose] public section
set_option maxRecDepth 16384
noncomputable section
open Idealize.ShloMosaic Idealize.ShloMosaic.TcCoe Idealize.SL.Sem
namespace Cert.Ret
open Cert.KernelIdeal Cert.KernelIdeal.Gen
variable (m : (ℓ : Loc nD τ sig) → Buf (Elt Ideal) ℓ) (c : Dev nD)

/-! The tables both programs compute, as arrays. -/

/-- The angles: position times frequency. -/
def angA : FVec Ideal S4096x32 .f32 :=
  mulf (broadcastInDim S4096x32 ![0, 1] bcast_S4096x1_S4096x32_0_1
      (broadcastInDim S4096x1 ![0] bcast_S4096_S4096x1_0 (sitofp .f32 (iotaInDim S4096 32 0))))
    (broadcastInDim S4096x32 ![0, 1] bcast_S1x32_S4096x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))
/-- Their cosines and sines. -/
def cosA : FVec Ideal S4096x32 .f32 := Host.cos angA
def sinA : FVec Ideal S4096x32 .f32 := Host.sin angA
/-- The logarithm of the decay of each head. -/
def lgA : FVec Ideal S6 .f32 :=
  Host.log1p (Host.negf (Host.exp (mulf (broadcastInDim S6 ![] bcast_S_S6 (constant S_ .f32 0x3F317218#32))
    (subf (broadcastInDim S6 ![] bcast_S_S6 (constant S_ .f32 0xC0A00000#32)) (sitofp .f32 (iotaInDim S6 32 0))))))
/-- The differences of positions within a chunk. -/
def difA : FVec Ideal S128x128 .f32 :=
  subf (broadcastInDim S128x128 ![0, 1] bcast_S128x1_S128x128_0_1 (broadcastInDim S128x1 ![0] bcast_S128_S128x1_0 (sitofp .f32 (iotaInDim S128 32 0))))
    (broadcastInDim S128x128 ![0, 1] bcast_S1x128_S128x128_0_1 (broadcastInDim S1x128 ![1] bcast_S128_S1x128_1 (sitofp .f32 (iotaInDim S128 32 0))))
/-- The decay between two positions of a chunk, zero above the diagonal. -/
def dinA : FVec Ideal S6x128x128 .f32 :=
  select (broadcastInDim S6x128x128 ![0, 1, 2] bcast_S1x128x128_S6x128x128_0_1_2
      (cmpf .oge (broadcastInDim S1x128x128 ![1, 2] bcast_S128x128_S1x128x128_1_2 difA)
        (broadcastInDim S1x128x128 ![] bcast_S_S1x128x128 (constant S_ .f32 0x00000000#32))))
    (Host.exp (mulf (broadcastInDim S6x128x128 ![0, 1, 2] bcast_S6x1x1_S6x128x128_0_1_2 (broadcastInDim S6x1x1 ![0] bcast_S6_S6x1x1_0 lgA))
      (broadcastInDim S6x128x128 ![0, 1, 2] bcast_S1x128x128_S6x128x128_0_1_2 (broadcastInDim S1x128x128 ![1, 2] bcast_S128x128_S1x128x128_1_2
        (maximumf difA (broadcastInDim S128x128 ![] bcast_S_S128x128 (constant S_ .f32 0x00000000#32)))))))
    (broadcastInDim S6x128x128 ![] bcast_S_S6x128x128 (constant S_ .f32 0x00000000#32))
/-- The decay from the chunk's start to each position. -/
def dqA : FVec Ideal S128x6 .f32 :=
  Host.exp (mulf (broadcastInDim S128x6 ![0, 1] bcast_S1x6_S128x6_0_1 (broadcastInDim S1x6 ![1] bcast_S6_S1x6_1 lgA))
    (broadcastInDim S128x6 ![0, 1] bcast_S128x1_S128x6_0_1 (addf (broadcastInDim S128x1 ![0] bcast_S128_S128x1_0 (sitofp .f32 (iotaInDim S128 32 0)))
      (broadcastInDim S128x1 ![] bcast_S_S128x1 (constant S_ .f32 0x3F800000#32)))))
/-- The decay from each position to the chunk's end. -/
def dkA : FVec Ideal S128x6 .f32 :=
  Host.exp (mulf (broadcastInDim S128x6 ![0, 1] bcast_S1x6_S128x6_0_1 (broadcastInDim S1x6 ![1] bcast_S6_S1x6_1 lgA))
    (broadcastInDim S128x6 ![0, 1] bcast_S128x1_S128x6_0_1 (subf (broadcastInDim S128x1 ![] bcast_S_S128x1 (constant S_ .f32 0x42FE0000#32))
      (broadcastInDim S128x1 ![0] bcast_S128_S128x1_0 (sitofp .f32 (iotaInDim S128 32 0))))))
/-- The decay over a whole chunk. -/
def dsA : FVec Ideal S6 .f32 := Host.exp (mulf lgA (broadcastInDim S6 ![] bcast_S_S6 (constant S_ .f32 0x43000000#32)))
theorem t69 (l : Fin 384) : (V m c main_v69 : FVec Ideal S1x384 .f32) (ix2 0 l) = (m (c, main_arg2) : FVec Ideal S384 .f32) (ix1 l) := by
  simp only [V, List.flatten_cons, List.flatten_nil, List.append_nil, List.cons_append, List.nil_append, StableHlo.after_cons, StableHlo.after_nil]
  after_results_simp
  after_results_loop
  pointwise
/-- Four blocks of 32 lanes, two and two the same. -/
theorem quad (A B : Fin 32 → EReal) (l : Fin 128) :
    (if h : l.val < 32 then A ⟨l.val, h⟩ else if h : l.val - 32 < 32 then B ⟨l.val - 32, h⟩
      else if h : l.val - 32 - 32 < 32 then A ⟨l.val - 32 - 32, h⟩ else B ⟨l.val - 32 - 32 - 32, by omega⟩)
      = if l.val % 64 < 32 then A ⟨l.val % 32, by omega⟩ else B ⟨l.val % 32, by omega⟩ := by
  have hl := l.isLt
  have hm : ∀ (n : ℕ) (hn : n < 32), n = l.val % 32 → (⟨n, hn⟩ : Fin 32) = ⟨l.val % 32, by omega⟩ := fun n hn h => Fin.ext h
  by_cases a1 : l.val < 32
  · rw [dif_pos a1, if_pos (by omega), hm _ _ (by omega)]
  · rw [dif_neg a1]
    by_cases a2 : l.val - 32 < 32
    · rw [dif_pos a2, if_neg (by omega), hm _ _ (by omega)]
    · rw [dif_neg a2]
      by_cases a3 : l.val - 32 - 32 < 32
      · rw [dif_pos a3, if_pos (by omega), hm _ _ (by omega)]
      · rw [dif_neg a3, if_neg (by omega), hm _ _ (by omega)]

/-- Four blocks of 32 lanes side by side, read at a lane. -/
theorem concat4 (x0 x1 x2 x3 A B : FVec Ideal S4096x32 .f32) (h0 : x0 = A) (h1 : x1 = B) (h2 : x2 = A) (h3 : x3 = B) (p : Fin 4096) (l : Fin 128) :
    (concatenate S4096x128 1 [⟨S4096x32, x0⟩, ⟨S4096x32, x1⟩, ⟨S4096x32, x2⟩, ⟨S4096x32, x3⟩] concatenates_S4096x32_S4096x32_S4096x32_S4096x32_S4096x128_d1 : FVec Ideal S4096x128 .f32) (ix2 p l)
      = if l.val % 64 < 32 then A (ix2 p ⟨l.val % 32, by omega⟩) else B (ix2 p ⟨l.val % 32, by omega⟩) := by
  subst h0 h1 h2 h3
  pointwise
  exact quad (fun k => x2 (ix2 p k)) (fun k => x3 (ix2 p k)) l
set_option maxHeartbeats 1000000 in
theorem t15 (p : Fin 4096) (l : Fin 128) : (V m c main_v15 : FVec Ideal S4096x128 .f32) (ix2 p l) = cosA (ix2 p ⟨l.val % 32, by omega⟩) := by
  simp only [V, List.flatten_cons, List.flatten_nil, List.append_nil, List.cons_append, List.nil_append, StableHlo.after_cons, StableHlo.after_nil]
  after_results_simp
  refine (concat4 _ _ _ _ cosA cosA ?_ ?_ ?_ ?_ p l).trans ?_
  · show HloOp.result _ _ (Proc.devRef .tc main_v13) = _
    after_results_simp
    rfl
  · show HloOp.result _ _ (Proc.devRef .tc main_v13) = _
    after_results_simp
    rfl
  · show HloOp.result _ _ (Proc.devRef .tc main_v13) = _
    after_results_simp
    rfl
  · show HloOp.result _ _ (Proc.devRef .tc main_v13) = _
    after_results_simp
    rfl
  · split <;> rfl
set_option maxHeartbeats 1000000 in
theorem t17 (p : Fin 4096) (l : Fin 128) : (V m c main_v17 : FVec Ideal S4096x128 .f32) (ix2 p l) = if l.val % 64 < 32 then -sinA (ix2 p ⟨l.val % 32, by omega⟩) else sinA (ix2 p ⟨l.val % 32, by omega⟩) := by
  simp only [V, List.flatten_cons, List.flatten_nil, List.append_nil, List.cons_append, List.nil_append, StableHlo.after_cons, StableHlo.after_nil]
  after_results_simp
  refine (concat4 _ _ _ _ (Host.negf sinA) sinA ?_ ?_ ?_ ?_ p l).trans ?_
  · show HloOp.result _ _ (Proc.devRef .tc main_v16) = _
    after_results_simp
    rfl
  · show HloOp.result _ _ (Proc.devRef .tc main_v14) = _
    after_results_simp
    rfl
  · show HloOp.result _ _ (Proc.devRef .tc main_v16) = _
    after_results_simp
    rfl
  · show HloOp.result _ _ (Proc.devRef .tc main_v14) = _
    after_results_simp
    rfl
  · rfl
set_option maxHeartbeats 1000000 in
theorem t43 : (V m c main_v43 : FVec Ideal S6x128x128 .f32) = dinA := by
  simp only [V, List.flatten_cons, List.flatten_nil, List.append_nil, List.cons_append, List.nil_append, StableHlo.after_cons, StableHlo.after_nil]
  after_results_simp
  simp only [StableHlo.TRef.ofBuf, StableHlo.TRef.toBuf, cast_cast, cast_eq, id_eq]
  unfold dinA difA lgA
  rfl
set_option maxHeartbeats 1000000 in
theorem t53 (j : Fin 128) (h : Fin 6) (d : Fin 64) : (V m c main_v53 : FVec Ideal S128x384 .f32) (ix2 j (ln h d)) = dqA (ix2 j h) := by
  simp only [V, List.flatten_cons, List.flatten_nil, List.append_nil, List.cons_append, List.nil_append, StableHlo.after_cons, StableHlo.after_nil]
  after_results_simp
  generalize hC : (Host.exp _ : FVec Ideal S128x6 .f32) = C
  rw [show dqA = C from hC]
  pointwise
  exact congrArg C (congrArg (ix2 j) (Fin.ext (by show (64 * h.val + d.val) / 64 = h.val; omega)))

set_option maxHeartbeats 1000000 in
theorem t63 (j : Fin 128) (h : Fin 6) (d : Fin 64) : (V m c main_v63 : FVec Ideal S128x384 .f32) (ix2 j (ln h d)) = dkA (ix2 j h) := by
  simp only [V, List.flatten_cons, List.flatten_nil, List.append_nil, List.cons_append, List.nil_append, StableHlo.after_cons, StableHlo.after_nil]
  after_results_simp
  generalize hC : (Host.exp _ : FVec Ideal S128x6 .f32) = C
  rw [show dkA = C from hC]
  pointwise
  exact congrArg C (congrArg (ix2 j) (Fin.ext (by show (64 * h.val + d.val) / 64 = h.val; omega)))

set_option maxHeartbeats 1000000 in
theorem t68 (h : Fin 6) (d e : Fin 64) : (V m c main_v68 : FVec Ideal S6x64x64 .f32) (ix3 h d e) = dsA (ix1 h) := by
  simp only [V, List.flatten_cons, List.flatten_nil, List.append_nil, List.cons_append, List.nil_append, StableHlo.after_cons, StableHlo.after_nil]
  after_results_simp
  generalize hC : (Host.exp _ : FVec Ideal S6 .f32) = C
  rw [show dsA = C from hC]
  pointwise
end Cert.Ret
-- ==== Proof.Ret.KerBlk.lean ====
module
public import proofs.«01_k».proof.Proof.Gen.KernelIdeal.Value
public import proofs.«01_k».proof.Proof.Ret.KerTab
public import Idealize.ShloMosaic.Lib.Pointwise
public import Idealize.ShloMosaic.Lib.Claim
public import Idealize.ShloMosaic.Lib.Pipeline.ValueKit
@[expose] public section
set_option maxRecDepth 16384
noncomputable section
open Idealize.ShloMosaic Idealize.ShloMosaic.TcCoe Idealize.SL.Sem
namespace Cert.Ret
open Cert.KernelIdeal Cert.KernelIdeal.Gen
variable (m : (ℓ : Loc nD τ sig) → Buf (Elt Ideal) ℓ) (c : Dev nD)
theorem idx0 : ∀ t : Fin cfg0.N, win0_0.index t = ![t.val / 32, t.val % 32, 0] := by decide +kernel
theorem idx1 : ∀ t : Fin cfg0.N, win0_1.index t = ![t.val / 32, 0, 0, 0] := by decide +kernel
theorem idx2 : ∀ t : Fin cfg0.N, win0_2.index t = ![t.val % 32, 0] := by decide +kernel
theorem idx3 : ∀ t : Fin cfg0.N, win0_3.index t = ![t.val % 32, 0] := by decide +kernel
theorem idx4 : ∀ t : Fin cfg0.N, win0_4.index t = ![0, 0, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![0, 0, 0] := by decide +kernel
theorem idx8 : ∀ t : Fin cfg0.N, win0_8.index t = ![0, 0] := by decide +kernel
theorem lt_N (t : Fin cfg0.N) : t.val < 128 := t.isLt

/-- The batch of a grid point and the position of its row `r`. -/
abbrev bt (t : Fin cfg0.N) : Fin 4 := ⟨t.val / 32, by have := lt_N t; omega⟩
abbrev pt (t : Fin cfg0.N) (r : Fin 128) : Fin 4096 := ⟨128 * (t.val % 32) + r.val, by have := r.isLt; omega⟩

theorem blk0 (t : Fin cfg0.N) (r : Fin 128) (l : Fin 1536) :
    (iblk m c 0 t : Vec Ideal S1x128x1536 .f32) (ix3 0 r l) = (m (c, main_arg0) : FVec Ideal S4x4096x1536 .f32) (ix3 (bt t) (pt t r) l) := by
  blk_simp [iblk, V]
  blk_point [iblk, V, idx0 t]
theorem blk1 (t : Fin cfg0.N) (h : Fin 6) (d e : Fin 64) :
    (iblk m c 1 t : Vec Ideal S1x6x64x64 .f32) (ix4 0 h d e) = (m (c, main_arg1) : FVec Ideal S4x6x64x64 .f32) (ix4 (bt t) h d e) := by
  blk_point [iblk, V, idx1 t]
theorem blk2 (t : Fin cfg0.N) (r l : Fin 128) :
    (iblk m c 2 t : Vec Ideal S128x128 .f32) (ix2 r l) = cosA (ix2 (pt t r) ⟨l.val % 32, by omega⟩) := by
  refine Eq.trans ?_ (t15 m c (pt t r) l)
  blk_simp [iblk]
  blk_ext [idx2 t]
theorem blk3 (t : Fin cfg0.N) (r l : Fin 128) :
    (iblk m c 3 t : Vec Ideal S128x128 .f32) (ix2 r l)
      = if l.val % 64 < 32 then -sinA (ix2 (pt t r) ⟨l.val % 32, by omega⟩) else sinA (ix2 (pt t r) ⟨l.val % 32, by omega⟩) := by
  refine Eq.trans ?_ (t17 m c (pt t r) l)
  blk_simp [iblk]
  blk_ext [idx3 t]
theorem blk4 (t : Fin cfg0.N) (h : Fin 6) (j l : Fin 128) :
    (iblk m c 4 t : Vec Ideal S6x128x128 .f32) (ix3 h j l) = dinA (ix3 h j l) := by
  refine Eq.trans ?_ (congrFun (t43 m c) (ix3 h j l))
  blk_simp [iblk]
  blk_ext [idx4 t]
theorem blk5 (t : Fin cfg0.N) (j : Fin 128) (h : Fin 6) (d : Fin 64) :
    (iblk m c 5 t : Vec Ideal S128x384 .f32) (ix2 j (ln h d)) = dqA (ix2 j h) := by
  refine Eq.trans ?_ (t53 m c j h d)
  blk_simp [iblk]
  blk_ext [idx5 t]
theorem blk6 (t : Fin cfg0.N) (j : Fin 128) (h : Fin 6) (d : Fin 64) :
    (iblk m c 6 t : Vec Ideal S128x384 .f32) (ix2 j (ln h d)) = dkA (ix2 j h) := by
  refine Eq.trans ?_ (t63 m c j h d)
  blk_simp [iblk]
  blk_ext [idx6 t]
theorem blk7 (t : Fin cfg0.N) (h : Fin 6) (d e : Fin 64) :
    (iblk m c 7 t : Vec Ideal S6x64x64 .f32) (ix3 h d e) = dsA (ix1 h) := by
  refine Eq.trans ?_ (t68 m c h d e)
  blk_simp [iblk]
  blk_ext [idx7 t]
theorem blk8 (t : Fin cfg0.N) (l : Fin 384) :
    (iblk m c 8 t : Vec Ideal S1x384 .f32) (ix2 0 l) = (m (c, main_arg2) : FVec Ideal S384 .f32) (ix1 l) := by
  refine Eq.trans ?_ (t69 m c l)
  blk_simp [iblk]
  blk_ext [idx8 t]
end Cert.Ret
-- ==== Proof.Ret.RopeSpec.lean ====
module
public import proofs.«01_k».proof.Proof.Gen.KernelIdeal.Value
public import proofs.«01_k».proof.Proof.Ret.KerBlk
public import Idealize.ShloMosaic.Lib.Pointwise
public import Idealize.ShloMosaic.Lib.Claim
public import Idealize.ShloMosaic.Lib.Pipeline.ValueKit
@[expose] public section
set_option maxRecDepth 16384
noncomputable section
open Idealize.ShloMosaic Idealize.ShloMosaic.TcCoe Idealize.SL.Sem
namespace Cert.Ret
open Cert.KernelIdeal Cert.KernelIdeal.Gen

/-! The retention's mathematics over the arrays both programs read. -/

/-- The first half of a rotated row of the projections that start at lane `o`. -/
def ropeLo (R : FVec Ideal S4x4096x1536 .f32) (o : ℕ) (ho : o ≤ 1152) (b : Fin 4) (p : Fin 4096) (h : Fin 6) (d : Fin 32) : EReal :=
  R (ix3 b p ⟨o + (h.val * 64 + d.val), by omega⟩) * cosA (ix2 p d)
    - R (ix3 b p ⟨o + (h.val * 64 + (32 + d.val)), by omega⟩) * sinA (ix2 p d)

/-- Its second half. -/
def ropeHi (R : FVec Ideal S4x4096x1536 .f32) (o : ℕ) (ho : o ≤ 1152) (b : Fin 4) (p : Fin 4096) (h : Fin 6) (d : Fin 32) : EReal :=
  R (ix3 b p ⟨o + (h.val * 64 + d.val), by omega⟩) * sinA (ix2 p d)
    + R (ix3 b p ⟨o + (h.val * 64 + (32 + d.val)), by omega⟩) * cosA (ix2 p d)

/-- A rotated row of the projections that start at lane `o`. -/
def ropeE (R : FVec Ideal S4x4096x1536 .f32) (o : ℕ) (ho : o ≤ 1152) (b : Fin 4) (p : Fin 4096) (h : Fin 6) (d : Fin 64) : EReal :=
  if hd : d.val < 32 then ropeLo R o ho b p h ⟨d.val, hd⟩ else ropeHi R o ho b p h ⟨d.val - 32, by omega⟩

/-- The rotated and scaled keys. -/
def keyE (R : FVec Ideal S4x4096x1536 .f32) (b : Fin 4) (p : Fin 4096) (h : Fin 6) (d : Fin 64) : EReal :=
  ropeE R 384 (by omega) b p h d * Ideal.ofBits .f32 0x3E000000#32

/-- The values. -/
def valE (R : FVec Ideal S4x4096x1536 .f32) (b : Fin 4) (p : Fin 4096) (h : Fin 6) (d : Fin 64) : EReal :=
  R (ix3 b p ⟨768 + (h.val * 64 + d.val), by omega⟩)

/-- Position `j` of chunk `n`. -/
abbrev posE (n : Fin 32) (j : Fin 128) : Fin 4096 := ⟨n.val * 128 + j.val, by omega⟩

/-- The state before chunk `k`. -/
def chS (R : FVec Ideal S4x4096x1536 .f32) (S : FVec Ideal S4x6x64x64 .f32) (b : Fin 4) (h : Fin 6) : ℕ → Fin 64 → Fin 64 → EReal
  | 0 => fun d e => S (ix4 b h d e)
  | k + 1 => if hk : k < 32 then newS (fun j d => keyE R b (posE ⟨k, hk⟩ j) h d) (fun j d => valE R b (posE ⟨k, hk⟩ j) h d)
      (fun j _ => dkA (ix2 j h)) (fun _ _ => dsA (ix1 h)) (chS R S b h k) else chS R S b h k

theorem chS_succ (R : FVec Ideal S4x4096x1536 .f32) (S : FVec Ideal S4x6x64x64 .f32) (b : Fin 4) (h : Fin 6) (n : Fin 32) :
    chS R S b h (n.val + 1) = newS (fun j d => keyE R b (posE n j) h d) (fun j d => valE R b (posE n j) h d)
      (fun j _ => dkA (ix2 j h)) (fun _ _ => dsA (ix1 h)) (chS R S b h n.val) := by
  rw [chS, dif_pos n.isLt]

/-- What chunk `n` reads, before the normalisation. -/
def chO (R : FVec Ideal S4x4096x1536 .f32) (S : FVec Ideal S4x6x64x64 .f32) (n : Fin 32) (b : Fin 4) (h : Fin 6) : Fin 128 → Fin 64 → EReal :=
  mixO (fun j d => ropeE R 0 (by omega) b (posE n j) h d) (fun j d => keyE R b (posE n j) h d) (fun j d => valE R b (posE n j) h d)
    (fun j l => dinA (ix3 h j l)) (fun j _ => dqA (ix2 j h)) (chS R S b h n.val)

theorem newS_congr {k k' v v' : Fin 128 → Fin 64 → EReal} {dk dk' : Fin 128 → Fin 64 → EReal} {ds ds' s s' : Fin 64 → Fin 64 → EReal}
    (hk : ∀ j d, k j d = k' j d) (hv : ∀ j d, v j d = v' j d) (hdk : ∀ j d, dk j d = dk' j d) (hds : ∀ d e, ds d e = ds' d e)
    (hs : ∀ d e, s d e = s' d e) : newS k v dk ds s = newS k' v' dk' ds' s' := by
  obtain rfl : k = k' := funext₂ hk
  obtain rfl : v = v' := funext₂ hv
  obtain rfl : dk = dk' := funext₂ hdk
  obtain rfl : ds = ds' := funext₂ hds
  obtain rfl : s = s' := funext₂ hs
  rfl

theorem mixO_congr {q q' k k' v v' : Fin 128 → Fin 64 → EReal} {din din' : Fin 128 → Fin 128 → EReal} {dq dq' : Fin 128 → Fin 64 → EReal} {s s' : Fin 64 → Fin 64 → EReal}
    (hq : ∀ j d, q j d = q' j d) (hk : ∀ j d, k j d = k' j d) (hv : ∀ j d, v j d = v' j d) (hdin : ∀ j l, din j l = din' j l)
    (hdq : ∀ j d, dq j d = dq' j d) (hs : ∀ d e, s d e = s' d e) : mixO q k v din dq s = mixO q' k' v' din' dq' s' := by
  obtain rfl : q = q' := funext₂ hq
  obtain rfl : k = k' := funext₂ hk
  obtain rfl : v = v' := funext₂ hv
  obtain rfl : din = din' := funext₂ hdin
  obtain rfl : dq = dq' := funext₂ hdq
  obtain rfl : s = s' := funext₂ hs
  rfl

/-- The kernel's way of rotating: the row times the cosines and its swapped halves times the signed sines. -/
theorem rope_ker (R : FVec Ideal S4x4096x1536 .f32) (o : ℕ) (ho : o ≤ 1152) (b : Fin 4) (p : Fin 4096) (h : Fin 6) (d : Fin 64)
    (x y : Fin 1536) (hx : x.val = o + (ln h d).val) (hy : y.val = o + (sw (ln h d)).val) :
    R (ix3 b p x) * cosA (ix2 p ⟨(md (ln h d)).val % 32, by omega⟩)
      + R (ix3 b p y) * (if (md (ln h d)).val % 64 < 32 then -sinA (ix2 p ⟨(md (ln h d)).val % 32, by omega⟩)
          else sinA (ix2 p ⟨(md (ln h d)).val % 32, by omega⟩)) = ropeE R o ho b p h d := by
  have hd := d.isLt
  have hh := h.isLt
  have el : (ln h d).val = 64 * h.val + d.val := rfl
  have em : (md (ln h d)).val = (64 * h.val + d.val) % 128 := rfl
  have es : (sw (ln h d)).val = if (64 * h.val + d.val) % 64 < 32 then 64 * h.val + d.val + 32 else 64 * h.val + d.val - 32 := rfl
  have e64 : (md (ln h d)).val % 64 = d.val := by omega
  have e32 : (md (ln h d)).val % 32 = d.val % 32 := by omega
  unfold ropeE ropeLo ropeHi
  by_cases c : d.val < 32
  · rw [if_pos (by omega)] at es
    rw [if_pos (by omega), dif_pos c]
    have hm : (⟨(md (ln h d)).val % 32, by omega⟩ : Fin 32) = ⟨d.val, c⟩ := Fin.ext (by show _ % 32 = d.val; omega)
    have e1 : x = ⟨o + (h.val * 64 + d.val), by omega⟩ := Fin.ext (by show x.val = o + (h.val * 64 + d.val); omega)
    have e2 : y = ⟨o + (h.val * 64 + (32 + d.val)), by omega⟩ := Fin.ext (by show y.val = o + (h.val * 64 + (32 + d.val)); omega)
    rw [hm, congrArg (fun z => R (ix3 b p z)) e1, congrArg (fun z => R (ix3 b p z)) e2, sub_eq_add_neg, mul_neg]
  · rw [if_neg (by omega)] at es
    rw [if_neg (by omega), dif_neg c, add_comm]
    have hm : (⟨(md (ln h d)).val % 32, by omega⟩ : Fin 32) = ⟨d.val - 32, by omega⟩ := Fin.ext (by show _ % 32 = d.val - 32; omega)
    have e1 : x = ⟨o + (h.val * 64 + (32 + (d.val - 32))), by omega⟩ := Fin.ext (by show x.val = o + (h.val * 64 + (32 + (d.val - 32))); omega)
    have e2 : y = ⟨o + (h.val * 64 + (d.val - 32)), by omega⟩ := Fin.ext (by show y.val = o + (h.val * 64 + (d.val - 32)); omega)
    rw [hm, congrArg (fun z => R (ix3 b p z)) e1, congrArg (fun z => R (ix3 b p z)) e2]
end Cert.Ret
-- ==== Proof.Ret.RefEntry.lean ====
module
public import proofs.«01_k».proof.Proof.Ret.RefTrip
public import proofs.«01_k».proof.Proof.Ret.RopeSpec
public import Idealize.ShloMosaic.Lib.Pointwise
public import Idealize.ShloMosaic.Lib.Claim
@[expose] public section
set_option maxRecDepth 16384
noncomputable section
open Idealize.ShloMosaic Idealize.ShloMosaic.TcCoe Idealize.SL.Sem
namespace Cert.Ret
open Cert.ReferenceIdeal Cert.ReferenceIdeal.Gen Cert.ReferenceIdeal.Value
variable (m : (ℓ : Loc nD τ sig) → Buf (Elt Ideal) ℓ) (c : Dev nD)
open StableHlo

/-! What the loop of the reference starts from. -/

set_option maxHeartbeats 4000000 in
/-- The first halves of the rotated queries. -/
theorem x27 (b : Fin 4) (p : Fin 4096) (h : Fin 6) (d : Fin 32) :
   (upto hostOps0 (launchContents m c) 35 (Proc.devRef .tc main_v27) : FVec Ideal S4x4096x6x32 .f32) (ix4 b p h d)
    = ropeLo (m ((c.tc : Thread nD τ).loc main_arg0)) 0 (by omega) b p h d := by
  simp only [upto]
  after_reads_simp
  generalize hC : (Host.cos _ : FVec Ideal S4096x32 .f32) = C
  generalize hS : (Host.sin _ : FVec Ideal S4096x32 .f32) = S
  unfold ropeLo
  rw [show cosA = C from hC, show sinA = S from hS]
  pointwise [id]
set_option maxHeartbeats 4000000 in
/-- The second halves of the rotated queries. -/
theorem x32 (b : Fin 4) (p : Fin 4096) (h : Fin 6) (d : Fin 32) :
   (upto hostOps0 (launchContents m c) 35 (Proc.devRef .tc main_v32) : FVec Ideal S4x4096x6x32 .f32) (ix4 b p h d)
    = ropeHi (m ((c.tc : Thread nD τ).loc main_arg0)) 0 (by omega) b p h d := by
  simp only [upto]
  after_reads_simp
  generalize hC : (Host.cos _ : FVec Ideal S4096x32 .f32) = C
  generalize hS : (Host.sin _ : FVec Ideal S4096x32 .f32) = S
  unfold ropeHi
  rw [show cosA = C from hC, show sinA = S from hS]
  pointwise [id]
set_option maxHeartbeats 4000000 in
theorem e_q (n : Fin 32) (b : Fin 4) (j : Fin 128) (h : Fin 6) (d : Fin 64) :
    cQ (entryContents preI m c) (ix5 n b j h d) = ropeE (m ((c.tc : Thread nD τ).loc main_arg0)) 0 (by omega) b (posE n j) h d := by
  unfold cQ
  simp only [entryContents, afterL_cons, afterL_nil]
  after_reads_simp
  pointwise [id]
  exact dite_congr rfl (fun _ => x27 m c b _ h _) (fun _ => x32 m c b _ h _)
end Cert.Ret
-- ==== Proof.Ret.RefEntryK.lean ====
module
public import proofs.«01_k».proof.Proof.Ret.RefTrip
public import proofs.«01_k».proof.Proof.Ret.RopeSpec
public import Idealize.ShloMosaic.Lib.Pointwise
public import Idealize.ShloMosaic.Lib.Claim
@[expose] public section
set_option maxRecDepth 16384
noncomputable section
open Idealize.ShloMosaic Idealize.ShloMosaic.TcCoe Idealize.SL.Sem
namespace Cert.Ret
open Cert.ReferenceIdeal Cert.ReferenceIdeal.Gen Cert.ReferenceIdeal.Value
variable (m : (ℓ : Loc nD τ sig) → Buf (Elt Ideal) ℓ) (c : Dev nD)
open StableHlo
set_option maxHeartbeats 4000000 in
/-- The first halves of the rotated keys. -/
theorem x57 (b : Fin 4) (p : Fin 4096) (h : Fin 6) (d : Fin 32) :
   (upto hostOps0 (launchContents m c) 67 (Proc.devRef .tc main_v57) : FVec Ideal S4x4096x6x32 .f32) (ix4 b p h d)
    = ropeLo (m ((c.tc : Thread nD τ).loc main_arg0)) 384 (by omega) b p h d := by
  simp only [upto]
  after_reads_simp
  generalize hC : (Host.cos _ : FVec Ideal S4096x32 .f32) = C
  generalize hS : (Host.sin _ : FVec Ideal S4096x32 .f32) = S
  unfold ropeLo
  rw [show cosA = C from hC, show sinA = S from hS]
  pointwise [id]
set_option maxHeartbeats 4000000 in
/-- The second halves of the rotated keys. -/
theorem x62 (b : Fin 4) (p : Fin 4096) (h : Fin 6) (d : Fin 32) :
   (upto hostOps0 (launchContents m c) 67 (Proc.devRef .tc main_v62) : FVec Ideal S4x4096x6x32 .f32) (ix4 b p h d)
    = ropeHi (m ((c.tc : Thread nD τ).loc main_arg0)) 384 (by omega) b p h d := by
  simp only [upto]
  after_reads_simp
  generalize hC : (Host.cos _ : FVec Ideal S4096x32 .f32) = C
  generalize hS : (Host.sin _ : FVec Ideal S4096x32 .f32) = S
  unfold ropeHi
  rw [show cosA = C from hC, show sinA = S from hS]
  pointwise [id]
set_option maxHeartbeats 4000000 in
theorem e_k (n : Fin 32) (b : Fin 4) (j : Fin 128) (h : Fin 6) (d : Fin 64) :
    cK (entryContents preI m c) (ix5 n b j h d) = keyE (m ((c.tc : Thread nD τ).loc main_arg0)) b (posE n j) h d := by
  unfold cK
  simp only [entryContents, afterL_cons, afterL_nil]
  after_reads_simp
  pointwise [id]
  exact congrArg (· * Ideal.ofBits .f32 0x3E000000#32) (dite_congr rfl (fun _ => x57 m c b _ h _) (fun _ => x62 m c b _ h _))
end Cert.Ret
-- ==== Proof.Ret.RefEntryT.lean ====
module
public import proofs.«01_k».proof.Proof.Ret.RefTrip
public import proofs.«01_k».proof.Proof.Ret.RopeSpec
public import Idealize.ShloMosaic.Lib.Pointwise
public import Idealize.ShloMosaic.Lib.Claim
@[expose] public section
set_option maxRecDepth 16384
noncomputable section
open Idealize.ShloMosaic Idealize.ShloMosaic.TcCoe Idealize.SL.Sem
namespace Cert.Ret
open Cert.ReferenceIdeal Cert.ReferenceIdeal.Gen Cert.ReferenceIdeal.Value
variable (m : (ℓ : Loc nD τ sig) → Buf (Elt Ideal) ℓ) (c : Dev nD)
open StableHlo
set_option maxHeartbeats 4000000 in
theorem e_v (n : Fin 32) (b : Fin 4) (j : Fin 128) (h : Fin 6) (d : Fin 64) :
    cV (entryContents preI m c) (ix5 n b j h d) = valE (m ((c.tc : Thread nD τ).loc main_arg0)) b (posE n j) h d := by
  unfold cV
  simp only [entryContents, afterL_cons, afterL_nil]
  after_reads_simp
  pointwise [id]
  rfl
set_option maxHeartbeats 4000000 in
theorem e_din : cDin (entryContents preI m c) = dinA := by
  unfold cDin
  simp only [entryContents, afterL_cons, afterL_nil]
  after_reads_simp
  simp only [StableHlo.TRef.ofBuf, StableHlo.TRef.toBuf, cast_cast, cast_eq, id_eq]
  unfold dinA difA lgA
  rfl
set_option maxHeartbeats 4000000 in
theorem e_dq : cDq (entryContents preI m c) = dqA := by
  unfold cDq
  simp only [entryContents, afterL_cons, afterL_nil]
  after_reads_simp
  simp only [id_eq]
  rfl
set_option maxHeartbeats 4000000 in
theorem e_dk : cDk (entryContents preI m c) = dkA := by
  unfold cDk
  simp only [entryContents, afterL_cons, afterL_nil]
  after_reads_simp
  simp only [id_eq]
  rfl
set_option maxHeartbeats 4000000 in
theorem e_ds : cDs (entryContents preI m c) = dsA := by
  unfold cDs
  simp only [entryContents, afterL_cons, afterL_nil]
  after_reads_simp
  simp only [id_eq]
  rfl
set_option maxHeartbeats 4000000 in
theorem e_s : cS (entryContents preI m c) = (m ((c.tc : Thread nD τ).loc main_arg1) : FVec Ideal S4x6x64x64 .f32) := by
  unfold cS
  simp only [entryContents, afterL_cons, afterL_nil]
  after_reads_simp
  simp only [id_eq]
end Cert.Ret
-- ==== Proof.Ret.KerOutA.lean ====
module
public import proofs.«01_k».proof.Proof.Gen.KernelIdeal.Frame
public import proofs.«01_k».proof.Proof.Ret.KerBody
public import Idealize.ShloMosaic.Lib.Pointwise
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
namespace Cert.Ret
open Cert.KernelIdeal Cert.KernelIdeal.Gen

set_option maxHeartbeats 1000000 in
theorem outA (c : Dev nD) (i : grid0.Coords) (arg2 : Memref sig .tc .vmem S1x128x1536 .f32) (harg2 : arg2.IsWhole) (arg3 : Memref sig .tc .vmem S1x6x64x64 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S6x128x128 .f32) (harg6 : arg6.IsWhole) (arg7 : Memref sig .tc .vmem S128x384 .f32) (harg7 : arg7.IsWhole) (arg8 : Memref sig .tc .vmem S128x384 .f32) (harg8 : arg8.IsWhole) (arg9 : Memref sig .tc .vmem S6x64x64 .f32) (harg9 : arg9.IsWhole) (arg10 : Memref sig .tc .vmem S1x384 .f32) (harg10 : arg10.IsWhole) (arg11 : Memref sig .tc .vmem S1x128x384 .bf16) (harg11 : arg11.IsWhole) (arg12 : Memref sig .tc .vmem S1x6x64x64 .f32) (harg12 : arg12.IsWhole) (arg13 : Memref sig .tc .vmem S6x64x64 .f32) (harg13 : arg13.IsWhole) (hc0 : cond0_0 i) (hc1 : ¬cond0_1 i)
    (x0 : Vec Ideal S1x128x1536 .f32) (x1 : Vec Ideal S1x6x64x64 .f32) (x2 : Vec Ideal S128x128 .f32) (x3 : Vec Ideal S128x128 .f32) (x4 : Vec Ideal S6x128x128 .f32) (x5 : Vec Ideal S128x384 .f32) (x6 : Vec Ideal S128x384 .f32) (x7 : Vec Ideal S6x64x64 .f32) (x8 : Vec Ideal S1x384 .f32) (j : Fin 128) (h : Fin 6) (e : Fin 64) :
    out0_A_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 (ix3 0 j (ln h e)) = normO (kO x0 x2 x3 x4 x5 (k0_pay3 x1) h j) e * kG x0 x8 (ix2 j (ln h e)) := by
  frame_open
  simp (disch := decide) only [↓ View.readCov_skip, ↓ View.readCov_cons_toLoadRect, ↓ View.readCov_fill]
  frame_out
  unfold normO meanO kO mixO kQ kK kV kG
  canon_tiles x hx
  case piece0 =>
    pointwise [k0_pay1, k0_pay64, k0_pay65, k0_pay66, k0_pay67, k0_pay68, k0_pay69, k0_pay70, k0_pay71, k0_pay72, k0_pay73, k0_pay74, k0_pay75, k0_pay76, k0_pay20, k0_pay21, k0_pay22, k0_pay23, k0_pay24, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
    generalize k0_pay19 (F := Ideal) _ _ _ _ _ _ = K
    generalize k0_pay14 (F := Ideal) _ _ _ _ _ _ = Q
    generalize k0_pay6 (F := Ideal) _ = W
    generalize k0_pay25 (F := Ideal) _ _ = G
    have hx2' : 64 * h.val + e.val = 320 + (x 2).val := hx2
    obtain rfl : h = ((5 : Fin 6)) := by
      apply Fin.ext; have := e.isLt; have := (x 2).isLt; have : ((x 2).val < 64) := (x 2).isLt; show h.val = 5; omega
    obtain rfl : e = x 2 := by
      apply Fin.ext; show e.val = (x 2).val; have : 64 * 5 + e.val = 320 + (x 2).val := hx2'; omega
    obtain rfl : j = x 1 := Fin.ext hx1
    rfl
  case piece1 =>
    pointwise [k0_pay1, k0_pay64, k0_pay65, k0_pay66, k0_pay67, k0_pay68, k0_pay69, k0_pay70, k0_pay71, k0_pay72, k0_pay73, k0_pay74, k0_pay75, k0_pay76, k0_pay20, k0_pay21, k0_pay22, k0_pay23, k0_pay24, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
    generalize k0_pay19 (F := Ideal) _ _ _ _ _ _ = K
    generalize k0_pay14 (F := Ideal) _ _ _ _ _ _ = Q
    generalize k0_pay6 (F := Ideal) _ = W
    generalize k0_pay25 (F := Ideal) _ _ = G
    have hx2' : 64 * h.val + e.val = 256 + (x 2).val := hx2
    obtain rfl : h = ((4 : Fin 6)) := by
      apply Fin.ext; have := e.isLt; have := (x 2).isLt; have : ((x 2).val < 64) := (x 2).isLt; show h.val = 4; omega
    obtain rfl : e = x 2 := by
      apply Fin.ext; show e.val = (x 2).val; have : 64 * 4 + e.val = 256 + (x 2).val := hx2'; omega
    obtain rfl : j = x 1 := Fin.ext hx1
    rfl
  case piece2 =>
    pointwise [k0_pay1, k0_pay64, k0_pay65, k0_pay66, k0_pay67, k0_pay68, k0_pay69, k0_pay70, k0_pay71, k0_pay72, k0_pay73, k0_pay74, k0_pay75, k0_pay76, k0_pay20, k0_pay21, k0_pay22, k0_pay23, k0_pay24, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
    generalize k0_pay19 (F := Ideal) _ _ _ _ _ _ = K
    generalize k0_pay14 (F := Ideal) _ _ _ _ _ _ = Q
    generalize k0_pay6 (F := Ideal) _ = W
    generalize k0_pay25 (F := Ideal) _ _ = G
    have hx2' : 64 * h.val + e.val = 192 + (x 2).val := hx2
    obtain rfl : h = ((3 : Fin 6)) := by
      apply Fin.ext; have := e.isLt; have := (x 2).isLt; have : ((x 2).val < 64) := (x 2).isLt; show h.val = 3; omega
    obtain rfl : e = x 2 := by
      apply Fin.ext; show e.val = (x 2).val; have : 64 * 3 + e.val = 192 + (x 2).val := hx2'; omega
    obtain rfl : j = x 1 := Fin.ext hx1
    rfl
  case piece3 =>
    pointwise [k0_pay1, k0_pay64, k0_pay65, k0_pay66, k0_pay67, k0_pay68, k0_pay69, k0_pay70, k0_pay71, k0_pay72, k0_pay73, k0_pay74, k0_pay75, k0_pay76, k0_pay20, k0_pay21, k0_pay22, k0_pay23, k0_pay24, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
    generalize k0_pay19 (F := Ideal) _ _ _ _ _ _ = K
    generalize k0_pay14 (F := Ideal) _ _ _ _ _ _ = Q
    generalize k0_pay6 (F := Ideal) _ = W
    generalize k0_pay25 (F := Ideal) _ _ = G
    have hx2' : 64 * h.val + e.val = 128 + (x 2).val := hx2
    obtain rfl : h = ((2 : Fin 6)) := by
      apply Fin.ext; have := e.isLt; have := (x 2).isLt; have : ((x 2).val < 64) := (x 2).isLt; show h.val = 2; omega
    obtain rfl : e = x 2 := by
      apply Fin.ext; show e.val = (x 2).val; have : 64 * 2 + e.val = 128 + (x 2).val := hx2'; omega
    obtain rfl : j = x 1 := Fin.ext hx1
    rfl
  case piece4 =>
    pointwise [k0_pay1, k0_pay64, k0_pay65, k0_pay66, k0_pay67, k0_pay68, k0_pay69, k0_pay70, k0_pay71, k0_pay72, k0_pay73, k0_pay74, k0_pay75, k0_pay76, k0_pay20, k0_pay21, k0_pay22, k0_pay23, k0_pay24, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
    generalize k0_pay19 (F := Ideal) _ _ _ _ _ _ = K
    generalize k0_pay14 (F := Ideal) _ _ _ _ _ _ = Q
    generalize k0_pay6 (F := Ideal) _ = W
    generalize k0_pay25 (F := Ideal) _ _ = G
    have hx2' : 64 * h.val + e.val = 64 + (x 2).val := hx2
    obtain rfl : h = ((1 : Fin 6)) := by
      apply Fin.ext; have := e.isLt; have := (x 2).isLt; have : ((x 2).val < 64) := (x 2).isLt; show h.val = 1; omega
    obtain rfl : e = x 2 := by
      apply Fin.ext; show e.val = (x 2).val; have : 64 * 1 + e.val = 64 + (x 2).val := hx2'; omega
    obtain rfl : j = x 1 := Fin.ext hx1
    rfl
  case piece5 =>
    pointwise [k0_pay1, k0_pay64, k0_pay65, k0_pay66, k0_pay67, k0_pay68, k0_pay69, k0_pay70, k0_pay71, k0_pay72, k0_pay73, k0_pay74, k0_pay75, k0_pay76, k0_pay20, k0_pay21, k0_pay22, k0_pay23, k0_pay24, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
    generalize k0_pay19 (F := Ideal) _ _ _ _ _ _ = K
    generalize k0_pay14 (F := Ideal) _ _ _ _ _ _ = Q
    generalize k0_pay6 (F := Ideal) _ = W
    generalize k0_pay25 (F := Ideal) _ _ = G
    have hx2' : 64 * h.val + e.val = (x 2).val := hx2
    obtain rfl : h = ((0 : Fin 6)) := by
      apply Fin.ext; have := e.isLt; have := (x 2).isLt; have : ((x 2).val < 64) := (x 2).isLt; show h.val = 0; omega
    obtain rfl : e = x 2 := by
      apply Fin.ext; show e.val = (x 2).val; have : 64 * 0 + e.val = (x 2).val := hx2'; omega
    obtain rfl : j = x 1 := Fin.ext hx1
    have el : ∀ d : Fin 64, ln (0 : Fin 6) d = ⟨d.val, by omega⟩ := fun d => Fin.ext (Nat.zero_add _)
    set_option backward.isDefEq.respectTransparency false in simp only [el]

end Cert.Ret
-- ==== Proof.Ret.KerOutB.lean ====
module
public import proofs.«01_k».proof.Proof.Gen.KernelIdeal.Frame
public import proofs.«01_k».proof.Proof.Ret.KerBody
public import Idealize.ShloMosaic.Lib.Pointwise
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
namespace Cert.Ret
open Cert.KernelIdeal Cert.KernelIdeal.Gen

set_option maxHeartbeats 1000000 in
theorem outB (c : Dev nD) (i : grid0.Coords) (arg2 : Memref sig .tc .vmem S1x128x1536 .f32) (harg2 : arg2.IsWhole) (arg3 : Memref sig .tc .vmem S1x6x64x64 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S6x128x128 .f32) (harg6 : arg6.IsWhole) (arg7 : Memref sig .tc .vmem S128x384 .f32) (harg7 : arg7.IsWhole) (arg8 : Memref sig .tc .vmem S128x384 .f32) (harg8 : arg8.IsWhole) (arg9 : Memref sig .tc .vmem S6x64x64 .f32) (harg9 : arg9.IsWhole) (arg10 : Memref sig .tc .vmem S1x384 .f32) (harg10 : arg10.IsWhole) (arg11 : Memref sig .tc .vmem S1x128x384 .bf16) (harg11 : arg11.IsWhole) (arg12 : Memref sig .tc .vmem S1x6x64x64 .f32) (harg12 : arg12.IsWhole) (arg13 : Memref sig .tc .vmem S6x64x64 .f32) (harg13 : arg13.IsWhole) (hc0 : ¬cond0_0 i) (hc1 : ¬cond0_1 i)
    (x0 : Vec Ideal S1x128x1536 .f32) (x1 : Vec Ideal S1x6x64x64 .f32) (x2 : Vec Ideal S128x128 .f32) (x3 : Vec Ideal S128x128 .f32) (x4 : Vec Ideal S6x128x128 .f32) (x5 : Vec Ideal S128x384 .f32) (x6 : Vec Ideal S128x384 .f32) (x7 : Vec Ideal S6x64x64 .f32) (x8 : Vec Ideal S1x384 .f32) (xs0 : Vec Ideal S6x64x64 .f32) (j : Fin 128) (h : Fin 6) (e : Fin 64) :
    out0_B_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 (ix3 0 j (ln h e)) = normO (kO x0 x2 x3 x4 x5 xs0 h j) e * kG x0 x8 (ix2 j (ln h e)) := by
  frame_out
  unfold normO meanO kO mixO kQ kK kV kG
  canon_tiles x hx
  case piece0 =>
    pointwise [k0_pay1, k0_pay64, k0_pay65, k0_pay66, k0_pay67, k0_pay68, k0_pay69, k0_pay70, k0_pay71, k0_pay72, k0_pay73, k0_pay74, k0_pay75, k0_pay76, k0_pay20, k0_pay21, k0_pay22, k0_pay23, k0_pay24, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
    generalize k0_pay19 (F := Ideal) _ _ _ _ _ _ = K
    generalize k0_pay14 (F := Ideal) _ _ _ _ _ _ = Q
    generalize k0_pay6 (F := Ideal) _ = W
    generalize k0_pay25 (F := Ideal) _ _ = G
    have hx2' : 64 * h.val + e.val = 320 + (x 2).val := hx2
    obtain rfl : h = ((5 : Fin 6)) := by
      apply Fin.ext; have := e.isLt; have := (x 2).isLt; have : ((x 2).val < 64) := (x 2).isLt; show h.val = 5; omega
    obtain rfl : e = x 2 := by
      apply Fin.ext; show e.val = (x 2).val; have : 64 * 5 + e.val = 320 + (x 2).val := hx2'; omega
    obtain rfl : j = x 1 := Fin.ext hx1
    rfl
  case piece1 =>
    pointwise [k0_pay1, k0_pay64, k0_pay65, k0_pay66, k0_pay67, k0_pay68, k0_pay69, k0_pay70, k0_pay71, k0_pay72, k0_pay73, k0_pay74, k0_pay75, k0_pay76, k0_pay20, k0_pay21, k0_pay22, k0_pay23, k0_pay24, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
    generalize k0_pay19 (F := Ideal) _ _ _ _ _ _ = K
    generalize k0_pay14 (F := Ideal) _ _ _ _ _ _ = Q
    generalize k0_pay6 (F := Ideal) _ = W
    generalize k0_pay25 (F := Ideal) _ _ = G
    have hx2' : 64 * h.val + e.val = 256 + (x 2).val := hx2
    obtain rfl : h = ((4 : Fin 6)) := by
      apply Fin.ext; have := e.isLt; have := (x 2).isLt; have : ((x 2).val < 64) := (x 2).isLt; show h.val = 4; omega
    obtain rfl : e = x 2 := by
      apply Fin.ext; show e.val = (x 2).val; have : 64 * 4 + e.val = 256 + (x 2).val := hx2'; omega
    obtain rfl : j = x 1 := Fin.ext hx1
    rfl
  case piece2 =>
    pointwise [k0_pay1, k0_pay64, k0_pay65, k0_pay66, k0_pay67, k0_pay68, k0_pay69, k0_pay70, k0_pay71, k0_pay72, k0_pay73, k0_pay74, k0_pay75, k0_pay76, k0_pay20, k0_pay21, k0_pay22, k0_pay23, k0_pay24, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
    generalize k0_pay19 (F := Ideal) _ _ _ _ _ _ = K
    generalize k0_pay14 (F := Ideal) _ _ _ _ _ _ = Q
    generalize k0_pay6 (F := Ideal) _ = W
    generalize k0_pay25 (F := Ideal) _ _ = G
    have hx2' : 64 * h.val + e.val = 192 + (x 2).val := hx2
    obtain rfl : h = ((3 : Fin 6)) := by
      apply Fin.ext; have := e.isLt; have := (x 2).isLt; have : ((x 2).val < 64) := (x 2).isLt; show h.val = 3; omega
    obtain rfl : e = x 2 := by
      apply Fin.ext; show e.val = (x 2).val; have : 64 * 3 + e.val = 192 + (x 2).val := hx2'; omega
    obtain rfl : j = x 1 := Fin.ext hx1
    rfl
  case piece3 =>
    pointwise [k0_pay1, k0_pay64, k0_pay65, k0_pay66, k0_pay67, k0_pay68, k0_pay69, k0_pay70, k0_pay71, k0_pay72, k0_pay73, k0_pay74, k0_pay75, k0_pay76, k0_pay20, k0_pay21, k0_pay22, k0_pay23, k0_pay24, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
    generalize k0_pay19 (F := Ideal) _ _ _ _ _ _ = K
    generalize k0_pay14 (F := Ideal) _ _ _ _ _ _ = Q
    generalize k0_pay6 (F := Ideal) _ = W
    generalize k0_pay25 (F := Ideal) _ _ = G
    have hx2' : 64 * h.val + e.val = 128 + (x 2).val := hx2
    obtain rfl : h = ((2 : Fin 6)) := by
      apply Fin.ext; have := e.isLt; have := (x 2).isLt; have : ((x 2).val < 64) := (x 2).isLt; show h.val = 2; omega
    obtain rfl : e = x 2 := by
      apply Fin.ext; show e.val = (x 2).val; have : 64 * 2 + e.val = 128 + (x 2).val := hx2'; omega
    obtain rfl : j = x 1 := Fin.ext hx1
    rfl
  case piece4 =>
    pointwise [k0_pay1, k0_pay64, k0_pay65, k0_pay66, k0_pay67, k0_pay68, k0_pay69, k0_pay70, k0_pay71, k0_pay72, k0_pay73, k0_pay74, k0_pay75, k0_pay76, k0_pay20, k0_pay21, k0_pay22, k0_pay23, k0_pay24, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
    generalize k0_pay19 (F := Ideal) _ _ _ _ _ _ = K
    generalize k0_pay14 (F := Ideal) _ _ _ _ _ _ = Q
    generalize k0_pay6 (F := Ideal) _ = W
    generalize k0_pay25 (F := Ideal) _ _ = G
    have hx2' : 64 * h.val + e.val = 64 + (x 2).val := hx2
    obtain rfl : h = ((1 : Fin 6)) := by
      apply Fin.ext; have := e.isLt; have := (x 2).isLt; have : ((x 2).val < 64) := (x 2).isLt; show h.val = 1; omega
    obtain rfl : e = x 2 := by
      apply Fin.ext; show e.val = (x 2).val; have : 64 * 1 + e.val = 64 + (x 2).val := hx2'; omega
    obtain rfl : j = x 1 := Fin.ext hx1
    rfl
  case piece5 =>
    pointwise [k0_pay1, k0_pay64, k0_pay65, k0_pay66, k0_pay67, k0_pay68, k0_pay69, k0_pay70, k0_pay71, k0_pay72, k0_pay73, k0_pay74, k0_pay75, k0_pay76, k0_pay20, k0_pay21, k0_pay22, k0_pay23, k0_pay24, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
    generalize k0_pay19 (F := Ideal) _ _ _ _ _ _ = K
    generalize k0_pay14 (F := Ideal) _ _ _ _ _ _ = Q
    generalize k0_pay6 (F := Ideal) _ = W
    generalize k0_pay25 (F := Ideal) _ _ = G
    have hx2' : 64 * h.val + e.val = (x 2).val := hx2
    obtain rfl : h = ((0 : Fin 6)) := by
      apply Fin.ext; have := e.isLt; have := (x 2).isLt; have : ((x 2).val < 64) := (x 2).isLt; show h.val = 0; omega
    obtain rfl : e = x 2 := by
      apply Fin.ext; show e.val = (x 2).val; have : 64 * 0 + e.val = (x 2).val := hx2'; omega
    obtain rfl : j = x 1 := Fin.ext hx1
    have el : ∀ d : Fin 64, ln (0 : Fin 6) d = ⟨d.val, by omega⟩ := fun d => Fin.ext (Nat.zero_add _)
    set_option backward.isDefEq.respectTransparency false in simp only [el]

end Cert.Ret
-- ==== Proof.Ret.KerOutC.lean ====
module
public import proofs.«01_k».proof.Proof.Gen.KernelIdeal.Frame
public import proofs.«01_k».proof.Proof.Ret.KerBody
public import Idealize.ShloMosaic.Lib.Pointwise
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
namespace Cert.Ret
open Cert.KernelIdeal Cert.KernelIdeal.Gen

set_option maxHeartbeats 1000000 in
theorem outC (c : Dev nD) (i : grid0.Coords) (arg2 : Memref sig .tc .vmem S1x128x1536 .f32) (harg2 : arg2.IsWhole) (arg3 : Memref sig .tc .vmem S1x6x64x64 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S6x128x128 .f32) (harg6 : arg6.IsWhole) (arg7 : Memref sig .tc .vmem S128x384 .f32) (harg7 : arg7.IsWhole) (arg8 : Memref sig .tc .vmem S128x384 .f32) (harg8 : arg8.IsWhole) (arg9 : Memref sig .tc .vmem S6x64x64 .f32) (harg9 : arg9.IsWhole) (arg10 : Memref sig .tc .vmem S1x384 .f32) (harg10 : arg10.IsWhole) (arg11 : Memref sig .tc .vmem S1x128x384 .bf16) (harg11 : arg11.IsWhole) (arg12 : Memref sig .tc .vmem S1x6x64x64 .f32) (harg12 : arg12.IsWhole) (arg13 : Memref sig .tc .vmem S6x64x64 .f32) (harg13 : arg13.IsWhole) (hc0 : ¬cond0_0 i) (hc1 : cond0_1 i)
    (x0 : Vec Ideal S1x128x1536 .f32) (x1 : Vec Ideal S1x6x64x64 .f32) (x2 : Vec Ideal S128x128 .f32) (x3 : Vec Ideal S128x128 .f32) (x4 : Vec Ideal S6x128x128 .f32) (x5 : Vec Ideal S128x384 .f32) (x6 : Vec Ideal S128x384 .f32) (x7 : Vec Ideal S6x64x64 .f32) (x8 : Vec Ideal S1x384 .f32) (xs0 : Vec Ideal S6x64x64 .f32) (j : Fin 128) (h : Fin 6) (e : Fin 64) :
    out0_C_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 (ix3 0 j (ln h e)) = normO (kO x0 x2 x3 x4 x5 xs0 h j) e * kG x0 x8 (ix2 j (ln h e)) := by
  frame_open
  simp (disch := decide) only [↓ View.readCov_skip, ↓ View.readCov_cons_toLoadRect, ↓ View.readCov_fill]
  frame_out
  unfold normO meanO kO mixO kQ kK kV kG
  canon_tiles x hx
  case piece0 =>
    pointwise [k0_pay1, k0_pay64, k0_pay65, k0_pay66, k0_pay67, k0_pay68, k0_pay69, k0_pay70, k0_pay71, k0_pay72, k0_pay73, k0_pay74, k0_pay75, k0_pay76, k0_pay20, k0_pay21, k0_pay22, k0_pay23, k0_pay24, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
    generalize k0_pay19 (F := Ideal) _ _ _ _ _ _ = K
    generalize k0_pay14 (F := Ideal) _ _ _ _ _ _ = Q
    generalize k0_pay6 (F := Ideal) _ = W
    generalize k0_pay25 (F := Ideal) _ _ = G
    have hx2' : 64 * h.val + e.val = 320 + (x 2).val := hx2
    obtain rfl : h = ((5 : Fin 6)) := by
      apply Fin.ext; have := e.isLt; have := (x 2).isLt; have : ((x 2).val < 64) := (x 2).isLt; show h.val = 5; omega
    obtain rfl : e = x 2 := by
      apply Fin.ext; show e.val = (x 2).val; have : 64 * 5 + e.val = 320 + (x 2).val := hx2'; omega
    obtain rfl : j = x 1 := Fin.ext hx1
    rfl
  case piece1 =>
    pointwise [k0_pay1, k0_pay64, k0_pay65, k0_pay66, k0_pay67, k0_pay68, k0_pay69, k0_pay70, k0_pay71, k0_pay72, k0_pay73, k0_pay74, k0_pay75, k0_pay76, k0_pay20, k0_pay21, k0_pay22, k0_pay23, k0_pay24, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
    generalize k0_pay19 (F := Ideal) _ _ _ _ _ _ = K
    generalize k0_pay14 (F := Ideal) _ _ _ _ _ _ = Q
    generalize k0_pay6 (F := Ideal) _ = W
    generalize k0_pay25 (F := Ideal) _ _ = G
    have hx2' : 64 * h.val + e.val = 256 + (x 2).val := hx2
    obtain rfl : h = ((4 : Fin 6)) := by
      apply Fin.ext; have := e.isLt; have := (x 2).isLt; have : ((x 2).val < 64) := (x 2).isLt; show h.val = 4; omega
    obtain rfl : e = x 2 := by
      apply Fin.ext; show e.val = (x 2).val; have : 64 * 4 + e.val = 256 + (x 2).val := hx2'; omega
    obtain rfl : j = x 1 := Fin.ext hx1
    rfl
  case piece2 =>
    pointwise [k0_pay1, k0_pay64, k0_pay65, k0_pay66, k0_pay67, k0_pay68, k0_pay69, k0_pay70, k0_pay71, k0_pay72, k0_pay73, k0_pay74, k0_pay75, k0_pay76, k0_pay20, k0_pay21, k0_pay22, k0_pay23, k0_pay24, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
    generalize k0_pay19 (F := Ideal) _ _ _ _ _ _ = K
    generalize k0_pay14 (F := Ideal) _ _ _ _ _ _ = Q
    generalize k0_pay6 (F := Ideal) _ = W
    generalize k0_pay25 (F := Ideal) _ _ = G
    have hx2' : 64 * h.val + e.val = 192 + (x 2).val := hx2
    obtain rfl : h = ((3 : Fin 6)) := by
      apply Fin.ext; have := e.isLt; have := (x 2).isLt; have : ((x 2).val < 64) := (x 2).isLt; show h.val = 3; omega
    obtain rfl : e = x 2 := by
      apply Fin.ext; show e.val = (x 2).val; have : 64 * 3 + e.val = 192 + (x 2).val := hx2'; omega
    obtain rfl : j = x 1 := Fin.ext hx1
    rfl
  case piece3 =>
    pointwise [k0_pay1, k0_pay64, k0_pay65, k0_pay66, k0_pay67, k0_pay68, k0_pay69, k0_pay70, k0_pay71, k0_pay72, k0_pay73, k0_pay74, k0_pay75, k0_pay76, k0_pay20, k0_pay21, k0_pay22, k0_pay23, k0_pay24, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
    generalize k0_pay19 (F := Ideal) _ _ _ _ _ _ = K
    generalize k0_pay14 (F := Ideal) _ _ _ _ _ _ = Q
    generalize k0_pay6 (F := Ideal) _ = W
    generalize k0_pay25 (F := Ideal) _ _ = G
    have hx2' : 64 * h.val + e.val = 128 + (x 2).val := hx2
    obtain rfl : h = ((2 : Fin 6)) := by
      apply Fin.ext; have := e.isLt; have := (x 2).isLt; have : ((x 2).val < 64) := (x 2).isLt; show h.val = 2; omega
    obtain rfl : e = x 2 := by
      apply Fin.ext; show e.val = (x 2).val; have : 64 * 2 + e.val = 128 + (x 2).val := hx2'; omega
    obtain rfl : j = x 1 := Fin.ext hx1
    rfl
  case piece4 =>
    pointwise [k0_pay1, k0_pay64, k0_pay65, k0_pay66, k0_pay67, k0_pay68, k0_pay69, k0_pay70, k0_pay71, k0_pay72, k0_pay73, k0_pay74, k0_pay75, k0_pay76, k0_pay20, k0_pay21, k0_pay22, k0_pay23, k0_pay24, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
    generalize k0_pay19 (F := Ideal) _ _ _ _ _ _ = K
    generalize k0_pay14 (F := Ideal) _ _ _ _ _ _ = Q
    generalize k0_pay6 (F := Ideal) _ = W
    generalize k0_pay25 (F := Ideal) _ _ = G
    have hx2' : 64 * h.val + e.val = 64 + (x 2).val := hx2
    obtain rfl : h = ((1 : Fin 6)) := by
      apply Fin.ext; have := e.isLt; have := (x 2).isLt; have : ((x 2).val < 64) := (x 2).isLt; show h.val = 1; omega
    obtain rfl : e = x 2 := by
      apply Fin.ext; show e.val = (x 2).val; have : 64 * 1 + e.val = 64 + (x 2).val := hx2'; omega
    obtain rfl : j = x 1 := Fin.ext hx1
    rfl
  case piece5 =>
    pointwise [k0_pay1, k0_pay64, k0_pay65, k0_pay66, k0_pay67, k0_pay68, k0_pay69, k0_pay70, k0_pay71, k0_pay72, k0_pay73, k0_pay74, k0_pay75, k0_pay76, k0_pay20, k0_pay21, k0_pay22, k0_pay23, k0_pay24, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
    generalize k0_pay19 (F := Ideal) _ _ _ _ _ _ = K
    generalize k0_pay14 (F := Ideal) _ _ _ _ _ _ = Q
    generalize k0_pay6 (F := Ideal) _ = W
    generalize k0_pay25 (F := Ideal) _ _ = G
    have hx2' : 64 * h.val + e.val = (x 2).val := hx2
    obtain rfl : h = ((0 : Fin 6)) := by
      apply Fin.ext; have := e.isLt; have := (x 2).isLt; have : ((x 2).val < 64) := (x 2).isLt; show h.val = 0; omega
    obtain rfl : e = x 2 := by
      apply Fin.ext; show e.val = (x 2).val; have : 64 * 0 + e.val = (x 2).val := hx2'; omega
    obtain rfl : j = x 1 := Fin.ext hx1
    have el : ∀ d : Fin 64, ln (0 : Fin 6) d = ⟨d.val, by omega⟩ := fun d => Fin.ext (Nat.zero_add _)
    set_option backward.isDefEq.respectTransparency false in simp only [el]

end Cert.Ret
-- ==== Proof.Ret.KerSt.lean ====
module
public import proofs.«01_k».proof.Proof.Gen.KernelIdeal.Frame
public import proofs.«01_k».proof.Proof.Ret.KerBody
public import Idealize.ShloMosaic.Lib.Pointwise
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
namespace Cert.Ret
open Cert.KernelIdeal Cert.KernelIdeal.Gen

theorem stC (c : Dev nD) (i : grid0.Coords) (arg2 : Memref sig .tc .vmem S1x128x1536 .f32) (harg2 : arg2.IsWhole) (arg3 : Memref sig .tc .vmem S1x6x64x64 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S6x128x128 .f32) (harg6 : arg6.IsWhole) (arg7 : Memref sig .tc .vmem S128x384 .f32) (harg7 : arg7.IsWhole) (arg8 : Memref sig .tc .vmem S128x384 .f32) (harg8 : arg8.IsWhole) (arg9 : Memref sig .tc .vmem S6x64x64 .f32) (harg9 : arg9.IsWhole) (arg10 : Memref sig .tc .vmem S1x384 .f32) (harg10 : arg10.IsWhole) (arg11 : Memref sig .tc .vmem S1x128x384 .bf16) (harg11 : arg11.IsWhole) (arg12 : Memref sig .tc .vmem S1x6x64x64 .f32) (harg12 : arg12.IsWhole) (arg13 : Memref sig .tc .vmem S6x64x64 .f32) (harg13 : arg13.IsWhole) (hc0 : ¬cond0_0 i) (hc1 : cond0_1 i)
    (x0 : Vec Ideal S1x128x1536 .f32) (x1 : Vec Ideal S1x6x64x64 .f32) (x2 : Vec Ideal S128x128 .f32) (x3 : Vec Ideal S128x128 .f32) (x4 : Vec Ideal S6x128x128 .f32) (x5 : Vec Ideal S128x384 .f32) (x6 : Vec Ideal S128x384 .f32) (x7 : Vec Ideal S6x64x64 .f32) (x8 : Vec Ideal S1x384 .f32) (xs0 : Vec Ideal S6x64x64 .f32) (h : Fin 6) (d e : Fin 64) :
    out0_C_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 (ix4 0 h d e) = kS x0 x2 x3 x6 x7 xs0 h d e := by
  refine Eq.trans ?_ (soutC c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 (ix3 h d e))
  frame_open
  rw [View.read_writes_junk_eq_canon, View.read_writes_junk_eq_canon, View.canon_unit_zero (by funext a; match a with | ⟨0, _⟩ => rfl | ⟨1, _⟩ => rfl | ⟨2, _⟩ => rfl | ⟨3, _⟩ => rfl)]
  rw [View.readCov_eq_canon']
  generalize View.canon (Val := Elt Ideal) (s := S6x64x64) (e := .f32) _ = G
  pointwise [k0_pay2]

end Cert.Ret
-- ==== Proof.Ret.KerFold.lean ====
module
public import proofs.«01_k».proof.Proof.Gen.KernelIdeal.Value
public import proofs.«01_k».proof.Proof.Ret.RopeSpec
public import proofs.«01_k».proof.Proof.Ret.KerOutA
public import proofs.«01_k».proof.Proof.Ret.KerOutB
public import proofs.«01_k».proof.Proof.Ret.KerOutC
public import proofs.«01_k».proof.Proof.Ret.KerSt
public import Idealize.ShloMosaic.Lib.Pointwise
public import Idealize.ShloMosaic.Lib.Claim
public import Idealize.ShloMosaic.Lib.Pipeline.ValueKit
@[expose] public section
set_option maxRecDepth 16384
noncomputable section
open Idealize.ShloMosaic Idealize.ShloMosaic.TcCoe Idealize.SL.Sem
namespace Cert.Ret
open Cert.KernelIdeal Cert.KernelIdeal.Gen
variable (m : (ℓ : Loc nD τ sig) → Buf (Elt Ideal) ℓ) (c : Dev nD)
open Cert.KernelIdeal.Value

/-! What the kernel leaves at each point of the grid. -/

/-- The chunk of a grid point. -/
abbrev nt (t : Fin cfg0.N) : Fin 32 := ⟨t.val % 32, by omega⟩

theorem pt_pos (t : Fin cfg0.N) (j : Fin 128) : pt t j = posE (nt t) j :=
  Fin.ext (by show 128 * (t.val % 32) + j.val = t.val % 32 * 128 + j.val; omega)

theorem kQ_blk (t : Fin cfg0.N) (j : Fin 128) (h : Fin 6) (d : Fin 64) :
    kQ (iblk m c 0 t) (iblk m c 2 t) (iblk m c 3 t) (ix2 j (ln h d)) = ropeE (m (c, main_arg0)) 0 (by omega) (bt t) (posE (nt t) j) h d := by
  rw [kQ_read, blk0, blk0, blk2, blk3, ← pt_pos]
  exact rope_ker _ _ _ _ _ _ _ _ _ (Nat.zero_add _).symm (Nat.zero_add _).symm

theorem kK_blk (t : Fin cfg0.N) (j : Fin 128) (h : Fin 6) (d : Fin 64) :
    kK (iblk m c 0 t) (iblk m c 2 t) (iblk m c 3 t) (ix2 j (ln h d)) = keyE (m (c, main_arg0)) (bt t) (posE (nt t) j) h d := by
  rw [kK_read, blk0, blk0, blk2, blk3, ← pt_pos]
  exact congrArg (· * Ideal.ofBits .f32 0x3E000000#32) (rope_ker _ _ _ _ _ _ _ _ _ rfl rfl)

theorem kV_blk (t : Fin cfg0.N) (j : Fin 128) (h : Fin 6) (d : Fin 64) :
    kV (iblk m c 0 t) (ix2 j (ln h d)) = valE (m (c, main_arg0)) (bt t) (posE (nt t) j) h d := by
  rw [kV_read, blk0, ← pt_pos]
  exact congrArg (fun z => (m (c, main_arg0) : FVec Ideal S4x4096x1536 .f32) (ix3 (bt t) (pt t j) z)) (Fin.ext (by show 768 + (64 * h.val + d.val) = 768 + (h.val * 64 + d.val); omega))

/-- A point's state, of the state before its chunk. -/
theorem kS_blk (t : Fin cfg0.N) (s : Vec Ideal S6x64x64 .f32) (h : Fin 6)
    (hs : ∀ d e, s (ix3 h d e) = chS (m (c, main_arg0)) (m (c, main_arg1)) (bt t) h (nt t).val d e) :
    kS (iblk m c 0 t) (iblk m c 2 t) (iblk m c 3 t) (iblk m c 6 t) (iblk m c 7 t) s h
      = chS (m (c, main_arg0)) (m (c, main_arg1)) (bt t) h ((nt t).val + 1) := by
  rw [chS_succ]
  exact newS_congr (fun j d => kK_blk m c t j h d) (fun j d => kV_blk m c t j h d) (fun j d => blk6 m c t j h d) (fun d e => blk7 m c t h d e) hs

/-- A point's outputs before the normalisation, of the state before its chunk. -/
theorem kO_blk (t : Fin cfg0.N) (s : Vec Ideal S6x64x64 .f32) (h : Fin 6)
    (hs : ∀ d e, s (ix3 h d e) = chS (m (c, main_arg0)) (m (c, main_arg1)) (bt t) h (nt t).val d e) :
    kO (iblk m c 0 t) (iblk m c 2 t) (iblk m c 3 t) (iblk m c 4 t) (iblk m c 5 t) s h
      = chO (m (c, main_arg0)) (m (c, main_arg1)) (nt t) (bt t) h :=
  mixO_congr (fun j d => kQ_blk m c t j h d) (fun j d => kK_blk m c t j h d) (fun j d => kV_blk m c t j h d) (fun j l => blk4 m c t h j l)
    (fun j d => blk5 m c t j h d) hs

theorem first_s (t : Fin cfg0.N) (h0 : t.val % 32 = 0) (h : Fin 6) (d e : Fin 64) :
    (k0_pay3 (iblk m c 1 t) : FVec Ideal S6x64x64 .f32) (ix3 h d e) = chS (m (c, main_arg0)) (m (c, main_arg1)) (bt t) h (nt t).val d e := by
  rw [p3_read, blk1, show (nt t).val = 0 from h0]
  rfl

set_option maxHeartbeats 1000000 in
/-- After a point the scratch holds the state after its chunk. -/
theorem sc_fold (n : ℕ) : ∀ hn : n < cfg0.N, ∀ (h : Fin 6) (d e : Fin 64),
    (outsAt0 m c n hn).2.2 (ix3 h d e) = chS (m (c, main_arg0)) (m (c, main_arg1)) (bt ⟨n, hn⟩) h (n % 32 + 1) d e := by
  induction n using Nat.strong_induction_on with
  | _ n ih =>
    intro hn h d e
    by_cases h0 : n % 32 = 0
    · rw [outsAt0_A m c ⟨n, hn⟩ h0 (by show ¬ n % 32 = 31; omega)]
      dsimp only
      refine (soutA _ _ _ _ _ _ _ _ _ _ _ _ _ _ _ _ _ _ _ _ _ _ _ _ _ _ _ _ _ _ _ _ _ _ _ _ _ _).trans ?_
      exact congrFun (congrFun (kS_blk m c ⟨n, hn⟩ _ h (first_s m c ⟨n, hn⟩ h0 h)) d) e
    · have hs : ∀ d e, (outsAt0 m c (n - 1) (by omega)).2.2 (ix3 h d e)
          = chS (m (c, main_arg0)) (m (c, main_arg1)) (bt ⟨n, hn⟩) h (nt ⟨n, hn⟩).val d e := by
        intro d e
        rw [ih (n - 1) (by omega) (by omega) h d e]
        have e1 : bt ⟨n - 1, by omega⟩ = bt ⟨n, hn⟩ := Fin.ext (by show (n - 1) / 32 = n / 32; omega)
        have e2 : (n - 1) % 32 + 1 = n % 32 := by omega
        rw [e1, e2]
      by_cases h1 : n % 32 = 31
      · rw [outsAt0_C m c ⟨n, hn⟩ h0 h1]
        dsimp only
        refine (soutC _ _ _ _ _ _ _ _ _ _ _ _ _ _ _ _ _ _ _ _ _ _ _ _ _ _ _ _ _ _ _ _ _ _ _ _ _ _ _).trans ?_
        exact congrFun (congrFun (kS_blk m c ⟨n, hn⟩ _ h hs) d) e
      · rw [outsAt0_B m c ⟨n, hn⟩ h0 h1]
        dsimp only
        refine (soutB _ _ _ _ _ _ _ _ _ _ _ _ _ _ _ _ _ _ _ _ _ _ _ _ _ _ _ _ _ _ _ _ _ _ _ _ _ _ _).trans ?_
        exact congrFun (congrFun (kS_blk m c ⟨n, hn⟩ _ h hs) d) e

/-- Before a point that is not a chunk row's first, the scratch holds the state before its chunk. -/
theorem prev_s (t : Fin cfg0.N) (h0 : ¬ t.val % 32 = 0) (h : Fin 6) (d e : Fin 64) :
    (outsAt0 m c (t.val - 1) (by omega)).2.2 (ix3 h d e) = chS (m (c, main_arg0)) (m (c, main_arg1)) (bt t) h (nt t).val d e := by
  have hn := lt_N t
  rw [sc_fold m c (t.val - 1) (by omega) h d e]
  have e1 : bt ⟨t.val - 1, by omega⟩ = bt t := Fin.ext (by show (t.val - 1) / 32 = t.val / 32; omega)
  have e2 : (t.val - 1) % 32 + 1 = t.val % 32 := by omega
  rw [e1, e2]

/-- The gate's factor times the normalisation's weight, at a position of the chunk. -/
theorem kG_blk (t : Fin cfg0.N) (j : Fin 128) (l : Fin 384) :
    kG (iblk m c 0 t) (iblk m c 8 t) (ix2 j l) = siluE ((m (c, main_arg0) : FVec Ideal S4x4096x1536 .f32) (ix3 (bt t) (posE (nt t) j) ⟨1152 + l.val, by omega⟩))
      * (m (c, main_arg2) : FVec Ideal S384 .f32) (ix1 l) := by
  rw [kG_read, blk0, blk8, ← pt_pos]

set_option maxHeartbeats 1000000 in
/-- What a point writes of the first result. -/
theorem y_fold (t : Fin cfg0.N) (j : Fin 128) (h : Fin 6) (e : Fin 64) :
    (outsAt0 m c t.val t.isLt).1 (ix3 0 j (ln h e)) = normO (chO (m (c, main_arg0)) (m (c, main_arg1)) (nt t) (bt t) h j) e
      * (siluE ((m (c, main_arg0) : FVec Ideal S4x4096x1536 .f32) (ix3 (bt t) (posE (nt t) j) ⟨1152 + (ln h e).val, by omega⟩))
        * (m (c, main_arg2) : FVec Ideal S384 .f32) (ix1 (ln h e))) := by
  by_cases h0 : t.val % 32 = 0
  · rw [outsAt0_A m c t h0 (by omega)]
    dsimp only
    refine (outA _ _ _ _ _ _ _ _ _ _ _ _ _ _ _ _ _ _ _ _ _ _ _ _ _ _ _ _ _ _ _ _ _ _ _ _ _ _ _ _).trans ?_
    rw [kO_blk m c t _ h (first_s m c t h0 h), kG_blk]
  · by_cases h1 : t.val % 32 = 31
    · rw [outsAt0_C m c t h0 h1]
      dsimp only
      refine (outC _ _ _ _ _ _ _ _ _ _ _ _ _ _ _ _ _ _ _ _ _ _ _ _ _ _ _ _ _ _ _ _ _ _ _ _ _ _ _ _ _).trans ?_
      rw [kO_blk m c t _ h (prev_s m c t h0 h), kG_blk]
    · rw [outsAt0_B m c t h0 h1]
      dsimp only
      refine (outB _ _ _ _ _ _ _ _ _ _ _ _ _ _ _ _ _ _ _ _ _ _ _ _ _ _ _ _ _ _ _ _ _ _ _ _ _ _ _ _ _).trans ?_
      rw [kO_blk m c t _ h (prev_s m c t h0 h), kG_blk]

set_option maxHeartbeats 1000000 in
/-- What a row's last point writes of the second result. -/
theorem s_fold (t : Fin cfg0.N) (h1 : t.val % 32 = 31) (h : Fin 6) (d e : Fin 64) :
    (outsAt0 m c t.val t.isLt).2.1 (ix4 0 h d e) = chS (m (c, main_arg0)) (m (c, main_arg1)) (bt t) h 32 d e := by
  have h0 : ¬ t.val % 32 = 0 := by omega
  rw [outsAt0_C m c t h0 h1]
  dsimp only
  refine (stC _ _ _ _ _ _ _ _ _ _ _ _ _ _ _ _ _ _ _ _ _ _ _ _ _ _ _ _ _ _ _ _ _ _ _ _ _ _ _ _ _).trans ?_
  rw [kS_blk m c t _ h (prev_s m c t h0 h), show (nt t).val + 1 = 32 from congrArg (· + 1) h1]

/-- The first result at an index. -/
theorem G9_read (b : Fin 4) (p : Fin 4096) (l : Fin 384) :
    G9 m c (ix3 b p l) = normO (chO (m (c, main_arg0)) (m (c, main_arg1)) ⟨p.val / 128, by omega⟩ b ⟨l.val / 64, by omega⟩ ⟨p.val % 128, by omega⟩) ⟨l.val % 64, by omega⟩
      * (siluE ((m (c, main_arg0) : FVec Ideal S4x4096x1536 .f32) (ix3 b p ⟨1152 + l.val, by omega⟩))
        * (m (c, main_arg2) : FVec Ideal S384 .f32) (ix1 l)) := by
  have hb := b.isLt
  have hp := p.isLt
  have hl := l.isLt
  have ht : pt9Of (ix3 b p l) = 32 * b.val + p.val / 128 := by
    show 32 * (b.val / 1 - 0) + 1 * (p.val / 128 - 0) + 1 * (l.val / 384 - 0) = _
    omega
  have hN : pt9Of (ix3 b p l) < cfg0.N := by rw [ht]; show _ < 128; omega
  unfold G9
  rw [dif_pos hN]
  have e := outsAt0_sweep m c (pt9Of (ix3 b p l)) hN
  refine (congrArg (fun x => x.1 (loc9Of (ix3 b p l))) e.symm).trans ?_
  have y := y_fold m c ⟨pt9Of (ix3 b p l), hN⟩ ⟨p.val % 128, by omega⟩ ⟨l.val / 64, by omega⟩ ⟨l.val % 64, by omega⟩
  have el : ln ⟨l.val / 64, by omega⟩ ⟨l.val % 64, by omega⟩ = l := Fin.ext (by show 64 * (l.val / 64) + l.val % 64 = l.val; omega)
  have eb : bt ⟨pt9Of (ix3 b p l), hN⟩ = b := Fin.ext (by show pt9Of (ix3 b p l) / 32 = b.val; rw [ht]; omega)
  have en : nt ⟨pt9Of (ix3 b p l), hN⟩ = ⟨p.val / 128, by omega⟩ := Fin.ext (by show pt9Of (ix3 b p l) % 32 = p.val / 128; rw [ht]; omega)
  have ep : posE ⟨p.val / 128, by omega⟩ ⟨p.val % 128, by omega⟩ = p := Fin.ext (by show p.val / 128 * 128 + p.val % 128 = p.val; omega)
  rw [eb, en, ep] at y
  have hloc : loc9Of (ix3 b p l) = ix3 0 ⟨p.val % 128, by omega⟩ (ln ⟨l.val / 64, by omega⟩ ⟨l.val % 64, by omega⟩) := by
    funext a
    match a with
    | ⟨0, _⟩ => exact Fin.ext (by show b.val % 1 = 0; omega)
    | ⟨1, _⟩ => rfl
    | ⟨2, _⟩ => exact Fin.ext (by show l.val % 384 = 64 * (l.val / 64) + l.val % 64; omega)
  rw [hloc]
  refine y.trans ?_
  simp only [el, show 64 * (l.val / 64) + l.val % 64 = l.val from by omega]

/-- The second result at an index. -/
theorem G10_read (b : Fin 4) (h : Fin 6) (d e : Fin 64) :
    G10 m c (ix4 b h d e) = chS (m (c, main_arg0)) (m (c, main_arg1)) b h 32 d e := by
  have hb := b.isLt
  have hh := h.isLt
  have hd := d.isLt
  have he := e.isLt
  have ht : pt10Of (ix4 b h d e) = 32 * b.val + 31 := by
    show 32 * (1 * (b.val / 1 - 0) + 1 * (h.val / 6 - 0) + 1 * (d.val / 64 - 0) + 1 * (e.val / 64 - 0)) + 31 = _
    omega
  have hN : pt10Of (ix4 b h d e) < cfg0.N := by rw [ht]; show _ < 128; omega
  unfold G10
  rw [dif_pos hN]
  have q := outsAt0_sweep m c (pt10Of (ix4 b h d e)) hN
  refine (congrArg (fun x => x.2.1 (loc10Of (ix4 b h d e))) q.symm).trans ?_
  have y := s_fold m c ⟨pt10Of (ix4 b h d e), hN⟩ (by show pt10Of (ix4 b h d e) % 32 = 31; rw [ht]; omega) h d e
  have eb : bt ⟨pt10Of (ix4 b h d e), hN⟩ = b := Fin.ext (by show pt10Of (ix4 b h d e) / 32 = b.val; rw [ht]; omega)
  rw [eb] at y
  have hloc : loc10Of (ix4 b h d e) = ix4 0 h d e := by
    funext a
    match a with
    | ⟨0, _⟩ => exact Fin.ext (by show b.val % 1 = 0; omega)
    | ⟨1, _⟩ => exact Fin.ext (by show h.val % 6 = h.val; omega)
    | ⟨2, _⟩ => exact Fin.ext (by show d.val % 64 = d.val; omega)
    | ⟨3, _⟩ => exact Fin.ext (by show e.val % 64 = e.val; omega)
  rw [hloc]
  exact y
end Cert.Ret
-- ==== Proof.Ret.Join.lean ====
module
public import proofs.«01_k».proof.Proof.Ret.RefTrip
public import proofs.«01_k».proof.Proof.Ret.RefEntry
public import proofs.«01_k».proof.Proof.Ret.RefEntryK
public import proofs.«01_k».proof.Proof.Ret.RefEntryT
public import proofs.«01_k».proof.Proof.Ret.KerFold
public import proofs.«01_k».proof.Proof.Ret.KerTab
public import Idealize.ShloMosaic.Lib.Pointwise
public import Idealize.ShloMosaic.Lib.Claim
@[expose] public section
set_option maxRecDepth 16384
noncomputable section
open Idealize.ShloMosaic Idealize.ShloMosaic.TcCoe Idealize.SL.Sem
namespace Cert.Ret
open Cert.ReferenceIdeal Cert.ReferenceIdeal.Gen Cert.ReferenceIdeal.Value
variable (m : (ℓ : Loc nD τ sig) → Buf (Elt Ideal) ℓ) (c : Dev nD)
open StableHlo

/-! What the reference leaves, in the shared terms, and that both leave the same. -/

theorem refS_eq (b : Fin 4) (h : Fin 6) (k : ℕ) :
    refS (entryContents preI m c) b h k = chS (m ((c.tc : Thread nD τ).loc main_arg0)) (m ((c.tc : Thread nD τ).loc main_arg1)) b h k := by
  induction k with
  | zero =>
    funext d e
    exact congrFun (e_s m c) (ix4 b h d e)
  | succ k ih =>
    rw [refS, chS]
    by_cases hk : k < 32
    · rw [dif_pos hk, dif_pos hk, ih]
      exact newS_congr (fun j d => e_k m c ⟨k, hk⟩ b j h d) (fun j d => e_v m c ⟨k, hk⟩ b j h d) (fun j _ => congrFun (e_dk m c) (ix2 j h))
        (fun _ _ => congrFun (e_ds m c) (ix1 h)) (fun _ _ => rfl)
    · rw [dif_neg hk, dif_neg hk, ih]

theorem refO_eq (n : Fin 32) (b : Fin 4) (h : Fin 6) :
    refO (entryContents preI m c) n b h = chO (m ((c.tc : Thread nD τ).loc main_arg0)) (m ((c.tc : Thread nD τ).loc main_arg1)) n b h :=
  mixO_congr (fun j d => e_q m c n b j h d) (fun j d => e_k m c n b j h d) (fun j d => e_v m c n b j h d) (fun j l => congrFun (e_din m c) (ix3 h j l))
    (fun j _ => congrFun (e_dq m c) (ix2 j h)) (fun d e => congrFun (congrFun (refS_eq m c b h n.val) d) e)

/-- The reference's second result at an index. -/
theorem ref_state (b : Fin 4) (h : Fin 6) (d e : Fin 64) :
    cS (STEP^[32] (entryContents preI m c)) (ix4 b h d e)
      = chS (m ((c.tc : Thread nD τ).loc main_arg0)) (m ((c.tc : Thread nD τ).loc main_arg1)) b h 32 d e := by
  obtain ⟨_, _, _, _, _, _, _, _, eS, _⟩ := iter (entryContents preI m c) (ctr_entry m c) 32 (le_refl _)
  rw [eS, refS_eq]

/-- The reference's first result at an index. -/
theorem ref_out (b : Fin 4) (p : Fin 4096) (l : Fin 384) :
    (out_main_v147 (STEP^[32] (entryContents preI m c)) : FVec Ideal S4x4096x384 .bf16) (ix3 b p l)
      = normO (chO (m ((c.tc : Thread nD τ).loc main_arg0)) (m ((c.tc : Thread nD τ).loc main_arg1)) ⟨p.val / 128, by omega⟩ b ⟨l.val / 64, by omega⟩ ⟨p.val % 128, by omega⟩) ⟨l.val % 64, by omega⟩
        * (m ((c.tc : Thread nD τ).loc main_arg2) : FVec Ideal S384 .f32) (ix1 l)
        * siluE ((m ((c.tc : Thread nD τ).loc main_arg0) : FVec Ideal S4x4096x1536 .f32) (ix3 b p ⟨1152 + l.val, by omega⟩)) := by
  obtain ⟨_, _, _, _, _, _, _, _, _, eO⟩ := iter (entryContents preI m c) (ctr_entry m c) 32 (le_refl _)
  rw [out_read, iter_main_arg0, iter_main_arg2]
  have e : (fun e => cO (STEP^[32] (entryContents preI m c)) (ix5 ⟨p.val / 128, by omega⟩ b ⟨p.val % 128, by omega⟩ ⟨l.val / 64, by omega⟩ e))
      = chO (m ((c.tc : Thread nD τ).loc main_arg0)) (m ((c.tc : Thread nD τ).loc main_arg1)) ⟨p.val / 128, by omega⟩ b ⟨l.val / 64, by omega⟩ ⟨p.val % 128, by omega⟩ := by
    funext e
    rw [eO _ (by have := p.isLt; show p.val / 128 < 32; omega), refO_eq]
  rw [e]

/-- The kernel's second result is the reference's, from the same arguments. -/
theorem state_eq (mk : (ℓ : Loc Cert.KernelIdeal.nD Cert.KernelIdeal.τ Cert.KernelIdeal.sig) → Buf (Elt Ideal) ℓ) (ck : Dev Cert.KernelIdeal.nD)
    (h0 : (m ((c.tc : Thread nD τ).loc main_arg0) : FVec Ideal S4x4096x1536 .f32) = mk (ck, Cert.KernelIdeal.main_arg0))
    (h1 : (m ((c.tc : Thread nD τ).loc main_arg1) : FVec Ideal S4x6x64x64 .f32) = mk (ck, Cert.KernelIdeal.main_arg1)) :
    cS (STEP^[32] (entryContents preI m c)) = Cert.KernelIdeal.Value.G10 mk ck := by
  have key : ∀ (b : Fin 4) (h : Fin 6) (d e : Fin 64), cS (STEP^[32] (entryContents preI m c)) (ix4 b h d e) = Cert.KernelIdeal.Value.G10 mk ck (ix4 b h d e) := by
    intro b h d e
    rw [ref_state, h0, h1]
    exact (G10_read mk ck _ _ _ _).symm
  funext i
  exact (congrArg (cS (STEP^[32] (entryContents preI m c))) (eq_ix4 i)).trans ((key _ _ _ _).trans (congrArg (Cert.KernelIdeal.Value.G10 mk ck) (eq_ix4 i).symm))

/-- The kernel's first result is the reference's, from the same arguments. -/
theorem out_eq (mk : (ℓ : Loc Cert.KernelIdeal.nD Cert.KernelIdeal.τ Cert.KernelIdeal.sig) → Buf (Elt Ideal) ℓ) (ck : Dev Cert.KernelIdeal.nD)
    (h0 : (m ((c.tc : Thread nD τ).loc main_arg0) : FVec Ideal S4x4096x1536 .f32) = mk (ck, Cert.KernelIdeal.main_arg0))
    (h1 : (m ((c.tc : Thread nD τ).loc main_arg1) : FVec Ideal S4x6x64x64 .f32) = mk (ck, Cert.KernelIdeal.main_arg1))
    (h2 : (m ((c.tc : Thread nD τ).loc main_arg2) : FVec Ideal S384 .f32) = mk (ck, Cert.KernelIdeal.main_arg2)) :
    out_main_v147 (STEP^[32] (entryContents preI m c)) = Cert.KernelIdeal.Value.G9 mk ck := by
  have key : ∀ (b : Fin 4) (p : Fin 4096) (l : Fin 384), (out_main_v147 (STEP^[32] (entryContents preI m c)) : FVec Ideal S4x4096x384 .bf16) (ix3 b p l)
      = Cert.KernelIdeal.Value.G9 mk ck (ix3 b p l) := by
    intro b p l
    rw [ref_out, h0, h1, h2]
    refine Eq.trans ?_ (G9_read mk ck _ _ _).symm
    rw [mul_assoc]
    exact congrArg _ (mul_comm _ _)
  funext i
  exact (congrArg (out_main_v147 (STEP^[32] (entryContents preI m c))) (eq_ix3 i)).trans ((key _ _ _).trans (congrArg (Cert.KernelIdeal.Value.G9 mk ck) (eq_ix3 i).symm))
end Cert.Ret
-- ==== Proof.Prj.Spec.lean ====
module
public import Idealize.ShloMosaic.PureOps.Ideal
public import Idealize.ShloMosaic.Lib.Pointwise
@[expose] public section
noncomputable section
open Idealize.ShloMosaic
namespace Cert.Prj

/-- The factor of a row's root-mean-square norm. -/
def rmsE (h : Fin 1024 → EReal) : EReal :=
  Ideal.rsqrt (Ideal.div (∑ x, h x * h x) (Ideal.ofBits FTy.f32 1149239296#32) + Ideal.ofBits FTy.f32 897988541#32)
/-- A row, normed and weighted. -/
def nrmE (h g : Fin 1024 → EReal) (l : Fin 1024) : EReal := h l * rmsE h * g l
/-- A row plus the three mixers' outputs, each through its rows of the weight. -/
def resE (x : Fin 1024 → EReal) (a : Fin 256 → EReal) (b d : Fin 384 → EReal) (W : Fin 1024 → Fin 1024 → EReal) (l : Fin 1024) : EReal :=
  x l + ∑ q : Fin 256, a q * W ⟨q.val, by omega⟩ l + ∑ q : Fin 384, b q * W ⟨256 + q.val, by omega⟩ l + ∑ q : Fin 384, d q * W ⟨640 + q.val, by omega⟩ l

/-- One product with the three outputs side by side is the sum of the three products. -/
theorem res_concat (x : EReal) (a : Fin 256 → EReal) (b d : Fin 384 → EReal) (w : Fin 1024 → EReal) :
    x + ∑ k : Fin 1024, (if h : k.val < 256 then a ⟨k.val, h⟩ else if h : k.val - 256 < 384 then b ⟨k.val - 256, h⟩
        else d ⟨k.val - 256 - 384, by omega⟩) * w k
      = x + ∑ q : Fin 256, a q * w ⟨q.val, by omega⟩ + ∑ q : Fin 384, b q * w ⟨256 + q.val, by omega⟩ + ∑ q : Fin 384, d q * w ⟨640 + q.val, by omega⟩ := by
  rw [add_assoc, add_assoc]
  congr 1
  refine (Fin.sum_univ_add (a := 256) (b := 768) _).trans ?_
  refine congrArg₂ (· + ·) (Finset.sum_congr rfl fun q _ => ?_) ?_
  · have hq := q.isLt
    exact congrArg₂ (· * ·) (dif_pos hq) rfl
  · refine (Fin.sum_univ_add (a := 384) (b := 384) _).trans ?_
    refine congrArg₂ (· + ·) (Finset.sum_congr rfl fun q _ => ?_) (Finset.sum_congr rfl fun q _ => ?_)
    · have hq := q.isLt
      refine congrArg₂ (· * ·) ?_ rfl
      have e : (Fin.natAdd 256 (Fin.castAdd 384 q)).val = 256 + q.val := rfl
      refine (dif_neg (by rw [e]; omega)).trans ((dif_pos (by rw [e]; omega)).trans ?_)
      exact congrArg b (Fin.ext (by show 256 + q.val - 256 = q.val; omega))
    · have hq := q.isLt
      have e : (Fin.natAdd 256 (Fin.natAdd 384 q)).val = 256 + (384 + q.val) := rfl
      refine congrArg₂ (· * ·) ?_ (congrArg w (Fin.ext (by show 256 + (384 + q.val) = 640 + q.val; omega)))
      refine (dif_neg (by rw [e]; omega)).trans ((dif_neg (by rw [e]; omega)).trans ?_)
      exact congrArg d (Fin.ext (by show 256 + (384 + q.val) - 256 - 384 = q.val; omega))
end Cert.Prj
-- ==== Proof.Prj.OutK.lean ====
module
public import proofs.«01_k».proof.Proof.Gen.Kernel3Ideal.Value
public import proofs.«01_k».proof.Proof.Prj.Spec
public import Idealize.ShloMosaic.Lib.Pointwise
public import Idealize.ShloMosaic.Lib.Claim
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.Prj
open Cert.Kernel3Ideal Cert.Kernel3Ideal.Gen
variable (m : (ℓ : Loc nD τ sig) → Buf (Elt Ideal) ℓ) (c : Dev nD)
theorem idxO : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![t.val, 0] :=
  (by decide +kernel : ∀ t : Fin grid0.N, _)
theorem ltO (t : Fin cfg0.N) : t.val < 16 := t.isLt

/-- What a point stores at a row and a column of its block. -/
theorem pointO (x0 : FVec Ideal S1024x1024 .f32) (x1 : FVec Ideal S1024x256 .bf16) (w1 : FVec Ideal S256x1024 .bf16) (x2 : FVec Ideal S1024x384 .bf16)
    (w2 : FVec Ideal S384x1024 .bf16) (x3 : FVec Ideal S1024x384 .bf16) (w3 : FVec Ideal S384x1024 .bf16) (g : FVec Ideal S1x1024 .f32)
    (W : Fin 1024 → Fin 1024 → EReal) (h1 : ∀ q l, w1 (ix2 q l) = W ⟨q.val, by omega⟩ l) (h2 : ∀ q l, w2 (ix2 q l) = W ⟨256 + q.val, by omega⟩ l)
    (h3 : ∀ q l, w3 (ix2 q l) = W ⟨640 + q.val, by omega⟩ l) (j l : Fin 1024) :
    k0_pay1 (F := Ideal) x0 x1 w1 x2 w2 x3 w3 g (ix2 j l)
      = nrmE (resE (fun k => x0 (ix2 j k)) (fun k => x1 (ix2 j k)) (fun k => x2 (ix2 j k)) (fun k => x3 (ix2 j k)) W) (fun k => g (ix2 0 k)) l := by
  pointwise [k0_pay1]
  simp only [h1, h2, h3]
  rfl

/-- The host-prepared arrays, read at an index. -/
theorem v0 (r : Fin 16384) (k : Fin 1024) : (V m c main_v0 : FVec Ideal S16384x1024 .f32) (ix2 r k)
    = (m (c, main_arg0) : FVec Ideal S4x4096x1024 .f32) (ix3 ⟨r.val / 4096, by omega⟩ ⟨r.val % 4096, by omega⟩ k) := by
  entry_read
  pointwise
theorem v1 (r : Fin 16384) (k : Fin 256) : (V m c main_v1 : FVec Ideal S16384x256 .bf16) (ix2 r k)
    = (m (c, main_arg1) : FVec Ideal S4x4096x256 .bf16) (ix3 ⟨r.val / 4096, by omega⟩ ⟨r.val % 4096, by omega⟩ k) := by
  entry_read
  pointwise
theorem v2 (r : Fin 16384) (k : Fin 384) : (V m c main_v2 : FVec Ideal S16384x384 .bf16) (ix2 r k)
    = (m (c, main_arg2) : FVec Ideal S4x4096x384 .bf16) (ix3 ⟨r.val / 4096, by omega⟩ ⟨r.val % 4096, by omega⟩ k) := by
  entry_read
  pointwise
theorem v3 (q l : Fin 1024) : (V m c main_v3 : FVec Ideal S1024x1024 .bf16) (ix2 q l) = (m (c, main_arg4) : FVec Ideal S1024x1024 .f32) (ix2 q l) := by
  entry_read
  rfl
theorem v4 (l : Fin 1024) : (V m c main_v4 : FVec Ideal S1x1024 .f32) (ix2 0 l) = (m (c, main_arg5) : FVec Ideal S1024 .f32) (ix1 l) := by
  entry_read
  pointwise

/-- The row of a point's row. -/
abbrev rwO (t : Fin cfg0.N) (j : Fin 1024) : Fin 16384 := ⟨1024 * t.val + j.val, by have := ltO t; omega⟩

theorem o0 (t : Fin cfg0.N) (j k : Fin 1024) : (iblk m c 0 t : Vec Ideal S1024x1024 .f32) (ix2 j k)
    = (m (c, main_arg0) : FVec Ideal S4x4096x1024 .f32) (ix3 ⟨(rwO t j).val / 4096, by omega⟩ ⟨(rwO t j).val % 4096, by omega⟩ k) := by
  refine Eq.trans ?_ (v0 m c (rwO t j) k)
  blk_simp [iblk]
  blk_ext [idxO t]
theorem o1 (t : Fin cfg0.N) (j : Fin 1024) (k : Fin 256) : (iblk m c 1 t : Vec Ideal S1024x256 .bf16) (ix2 j k)
    = (m (c, main_arg1) : FVec Ideal S4x4096x256 .bf16) (ix3 ⟨(rwO t j).val / 4096, by omega⟩ ⟨(rwO t j).val % 4096, by omega⟩ k) := by
  refine Eq.trans ?_ (v1 m c (rwO t j) k)
  blk_simp [iblk]
  blk_ext [idxO t]
theorem o2 (t : Fin cfg0.N) (j : Fin 1024) (k : Fin 384) : (iblk m c 2 t : Vec Ideal S1024x384 .bf16) (ix2 j k)
    = (m (c, main_arg2) : FVec Ideal S4x4096x384 .bf16) (ix3 ⟨(rwO t j).val / 4096, by omega⟩ ⟨(rwO t j).val % 4096, by omega⟩ k) := by
  refine Eq.trans ?_ (v2 m c (rwO t j) k)
  blk_simp [iblk]
  blk_ext [idxO t]
theorem o3 (t : Fin cfg0.N) (j : Fin 1024) (k : Fin 384) : (iblk m c 3 t : Vec Ideal S1024x384 .bf16) (ix2 j k)
    = (m (c, main_arg3) : FVec Ideal S16384x384 .bf16) (ix2 (rwO t j) k) := by
  blk_simp [iblk, V]
  blk_ext [idxO t]
theorem o4 (t : Fin cfg0.N) (q l : Fin 1024) : (iblk m c 4 t : Vec Ideal S1024x1024 .bf16) (ix2 q l)
    = (m (c, main_arg4) : FVec Ideal S1024x1024 .f32) (ix2 q l) := by
  refine Eq.trans ?_ (v3 m c q l)
  blk_simp [iblk]
  blk_ext [idxO t]
theorem o5 (t : Fin cfg0.N) (l : Fin 1024) : (iblk m c 5 t : Vec Ideal S1x1024 .f32) (ix2 0 l)
    = (m (c, main_arg5) : FVec Ideal S1024 .f32) (ix1 l) := by
  refine Eq.trans ?_ (v4 m c l)
  blk_simp [iblk]
  blk_ext [idxO t]

/-- The output at a row and a column. -/
def outE (X : FVec Ideal S4x4096x1024 .f32) (Ys : FVec Ideal S4x4096x256 .bf16) (Yr : FVec Ideal S4x4096x384 .bf16) (Ya : FVec Ideal S16384x384 .bf16)
    (W : FVec Ideal S1024x1024 .f32) (G : FVec Ideal S1024 .f32) (r : Fin 16384) (l : Fin 1024) : EReal :=
  nrmE (resE (fun k => X (ix3 ⟨r.val / 4096, by omega⟩ ⟨r.val % 4096, by omega⟩ k)) (fun k => Ys (ix3 ⟨r.val / 4096, by omega⟩ ⟨r.val % 4096, by omega⟩ k))
    (fun k => Yr (ix3 ⟨r.val / 4096, by omega⟩ ⟨r.val % 4096, by omega⟩ k)) (fun k => Ya (ix2 r k)) (fun q k => W (ix2 q k))) (fun k => G (ix1 k)) l

/-- The result array. -/
def outA : FVec Ideal S16384x1024 .f32 := fun i =>
  outE (m (c, main_arg0)) (m (c, main_arg1)) (m (c, main_arg2)) (m (c, main_arg3)) (m (c, main_arg4)) (m (c, main_arg5)) (i 0) (i 1)

theorem blockO (t : Fin cfg0.N) (j l : Fin 1024) :
    k0_pay1 (F := Ideal) (iblk m c 0 t) (iblk m c 1 t) (View.ld (iblk m c 4 t) r0_2) (iblk m c 2 t) (View.ld (iblk m c 4 t) r0_4)
      (iblk m c 3 t) (View.ld (iblk m c 4 t) r0_5) (iblk m c 5 t) (ix2 j l) = outA m c (ix2 (rwO t j) l) := by
  refine (pointO _ _ _ _ _ _ _ _ (fun q k => (m (c, main_arg4) : FVec Ideal S1024x1024 .f32) (ix2 q k)) (fun q k => ?_) (fun q k => ?_) (fun q k => ?_) j l).trans ?_
  · refine Eq.trans ?_ (o4 m c t _ k)
    pointwise [View.ld]
  · refine Eq.trans ?_ (o4 m c t _ k)
    pointwise [View.ld]
  · refine Eq.trans ?_ (o4 m c t _ k)
    pointwise [View.ld]
  · simp only [o0, o1, o2, o3, o5]
    rfl

theorem finalO : (dats m 0 c).arrAt 6 cfg0.N = outA m c := by
  refine (dats m 0 c).arrAt_eq_of_covers 6 _ (by decide +kernel) fun t _ y => ?_
  blk_simp
  rw [after0_6]; frame_out
  refine (congrArg _ (eq_ix2 y)).trans ((blockO m c t (y 0) (y 1)).trans (congrArg (outA m c) ?_))
  blk_ext [idxO t]
end Cert.Prj
-- ==== Proof.Prj.OutR.lean ====
module
public import proofs.«01_k».proof.Proof.Gen.Reference3Ideal.Run
public import proofs.«01_k».proof.Proof.Prj.OutK
public import Idealize.ShloMosaic.Lib.Pointwise
public import Idealize.ShloMosaic.Lib.Claim
public import Idealize.ShloMosaic.Lib.Pipeline.ValueKit
@[expose] public section
set_option maxRecDepth 16384
noncomputable section
open Idealize.ShloMosaic Idealize.ShloMosaic.TcCoe Idealize.SL.Sem
namespace Cert.Prj
open Cert.Reference3Ideal Cert.Reference3Ideal.Gen
/-- The layer's input plus the projected mixers' outputs. -/
def resA (X : FVec Ideal S4x4096x1024 .f32) (Ys : FVec Ideal S4x4096x256 .bf16) (Yr : FVec Ideal S4x4096x384 .bf16) (Ya : FVec Ideal S16384x384 .bf16)
    (W : FVec Ideal S1024x1024 .f32) : FVec Ideal S4x4096x1024 .f32 :=
  (addf X (Host.dotGeneral dot_S4x4096x1024_S1024x1024_S4x4096x1024_2_0_01_1_n_n none ((concatenate S4x4096x1024 2 [⟨S4x4096x256, ((extf .f32 Ys bitsLt_bf16_f32) : FVec Ideal S4x4096x256 .f32)⟩, ⟨S4x4096x384, ((extf .f32 Yr bitsLt_bf16_f32) : FVec Ideal S4x4096x384 .f32)⟩, ⟨S4x4096x384, ((extf .f32 (shapeCast S4x4096x384 Ya shapeCasts_S16384x384_S4x4096x384) bitsLt_bf16_f32) : FVec Ideal S4x4096x384 .f32)⟩] concatenates_S4x4096x256_S4x4096x384_S4x4096x384_S4x4096x1024_d2 : FVec Ideal S4x4096x1024 .f32)) W))
/-- Its normed rows. -/
def outR (X : FVec Ideal S4x4096x1024 .f32) (Ys : FVec Ideal S4x4096x256 .bf16) (Yr : FVec Ideal S4x4096x384 .bf16) (Ya : FVec Ideal S16384x384 .bf16)
    (W : FVec Ideal S1024x1024 .f32) (G : FVec Ideal S1024 .f32) : FVec Ideal S16384x1024 .f32 :=
  shapeCast S16384x1024 (mulf (mulf (resA X Ys Yr Ya W) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (resA X Ys Yr Ya W) (resA X Ys Yr Ya W)) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 G))) shapeCasts_S4x4096x1024_S16384x1024
/-- The reference's residual row is the kernel's. -/
theorem resA_read (X : FVec Ideal S4x4096x1024 .f32) (Ys : FVec Ideal S4x4096x256 .bf16) (Yr : FVec Ideal S4x4096x384 .bf16) (Ya : FVec Ideal S16384x384 .bf16)
    (W : FVec Ideal S1024x1024 .f32) (b : Fin 4) (p : Fin 4096) (l : Fin 1024) : resA X Ys Yr Ya W (ix3 b p l)
      = resE (fun k => X (ix3 b p k)) (fun k => Ys (ix3 b p k)) (fun k => Yr (ix3 b p k)) (fun k => Ya (ix2 ⟨b.val * 4096 + p.val, by omega⟩ k)) (fun q k => W (ix2 q k)) l := by
  refine Eq.trans ?_ (res_concat _ _ _ _ (fun q => W (ix2 q l)))
  pointwise [resA]
theorem outR_read (X : FVec Ideal S4x4096x1024 .f32) (Ys : FVec Ideal S4x4096x256 .bf16) (Yr : FVec Ideal S4x4096x384 .bf16) (Ya : FVec Ideal S16384x384 .bf16)
    (W : FVec Ideal S1024x1024 .f32) (G : FVec Ideal S1024 .f32) (r : Fin 16384) (l : Fin 1024) : outR X Ys Yr Ya W G (ix2 r l) = outE X Ys Yr Ya W G r l := by
  have e : (⟨r.val / 4096 * 4096 + r.val % 4096, by omega⟩ : Fin 16384) = r := Fin.ext (by show r.val / 4096 * 4096 + r.val % 4096 = r.val; omega)
  have h : ∀ k, resA X Ys Yr Ya W (ix3 ⟨r.val / 4096, by omega⟩ ⟨r.val % 4096, by omega⟩ k)
      = resE (fun k => X (ix3 ⟨r.val / 4096, by omega⟩ ⟨r.val % 4096, by omega⟩ k)) (fun k => Ys (ix3 ⟨r.val / 4096, by omega⟩ ⟨r.val % 4096, by omega⟩ k))
        (fun k => Yr (ix3 ⟨r.val / 4096, by omega⟩ ⟨r.val % 4096, by omega⟩ k)) (fun k => Ya (ix2 r k)) (fun q k => W (ix2 q k)) k := fun k =>
    (resA_read X Ys Yr Ya W ⟨r.val / 4096, by omega⟩ ⟨r.val % 4096, by omega⟩ k).trans (by simp only [e])
  unfold outE nrmE rmsE
  simp only [← h]
  pointwise [outR]

/-- The reference's result is the kernel's, from the same arguments. -/
theorem out3_eq (m' : (ℓ : Loc nD τ sig) → Buf (Elt Ideal) ℓ) (c' : Dev nD)
    (m : (ℓ : Loc Cert.Kernel3Ideal.nD Cert.Kernel3Ideal.τ Cert.Kernel3Ideal.sig) → Buf (Elt Ideal) ℓ) (c : Dev Cert.Kernel3Ideal.nD)
    (h0 : m' (c', main_arg0) = m (c, Cert.Kernel3Ideal.main_arg0)) (h1 : m' (c', main_arg1) = m (c, Cert.Kernel3Ideal.main_arg1))
    (h2 : m' (c', main_arg2) = m (c, Cert.Kernel3Ideal.main_arg2)) (h3 : m' (c', main_arg3) = m (c, Cert.Kernel3Ideal.main_arg3))
    (h4 : m' (c', main_arg4) = m (c, Cert.Kernel3Ideal.main_arg4)) (h5 : m' (c', main_arg5) = m (c, Cert.Kernel3Ideal.main_arg5)) :
    outR (m' (c', main_arg0)) (m' (c', main_arg1)) (m' (c', main_arg2)) (m' (c', main_arg3)) (m' (c', main_arg4)) (m' (c', main_arg5)) = outA m c := by
  rw [h0, h1, h2, h3, h4, h5]
  funext i
  exact (congrArg _ (eq_ix2 i)).trans (outR_read _ _ _ _ _ _ (i 0) (i 1))
end Cert.Prj
-- ==== Proof.Prj.InSpec.lean ====
module
public import proofs.«01_k».proof.Proof.Prj.Spec
@[expose] public section
noncomputable section
open Idealize.ShloMosaic
namespace Cert.Prj.In

/-- A column of a projected normed row. -/
def zE (x g w : Fin 1024 → EReal) : EReal := ∑ k, nrmE x g k * w k
/-- The projections, by batch, position and column. -/
abbrev ZT := Fin 4 → Fin 4096 → Fin 3908 → EReal
/-- Some columns, by row of the flattened positions. -/
def rowE {n : ℕ} (off : ℕ) (h : off + n ≤ 3908) (Z : ZT) (r : Fin 16384) (l : Fin n) : EReal :=
  Z ⟨r.val / 4096, by omega⟩ ⟨r.val % 4096, by omega⟩ ⟨off + l.val, by omega⟩
/-- Some columns, channel by position. -/
def colE {n : ℕ} (off : ℕ) (h : off + n ≤ 3908) (Z : ZT) (b : Fin 4) (l : Fin n) (p : Fin 4096) : EReal := Z b p ⟨off + l.val, by omega⟩
/-- The values with sixteen rows of ones after each head's sixty-four. -/
def valE (Z : ZT) (b : Fin 4) (R : Fin 480) (p : Fin 4096) : EReal :=
  if h : R.val % 80 < 64 then Z b p ⟨2816 + (R.val / 80 * 64 + R.val % 80), by omega⟩ else Ideal.ofBits FTy.f32 0x3F800000#32
/-- The indexer's head weights, scaled, and zeros below them. -/
def wgtE (Z : ZT) (b : Fin 4) (R : Fin 8) (p : Fin 4096) : EReal :=
  (if h : R.val < 4 then Z b p ⟨3904 + R.val, by omega⟩ else 0) * Ideal.ofBits FTy.f32 0x3D800000#32
end Cert.Prj.In
-- ==== Proof.Prj.InK.lean ====
module
public import proofs.«01_k».proof.Proof.Gen.Kernel2Ideal.Value
public import Idealize.ShloMosaic.Lib.Pointwise
public import Idealize.ShloMosaic.Lib.Claim
public import Idealize.ShloMosaic.Lib.Pipeline.ValueKit
public import Idealize.ShloMosaic.Lib.Pipeline.ReadBack
public import proofs.«01_k».proof.Proof.Prj.InSpec
@[expose] public section
set_option maxRecDepth 16384
noncomputable section
open Idealize.ShloMosaic Idealize.ShloMosaic.TcCoe Idealize.SL.Sem
open Idealize.ShloMosaic.Pipeline (Dat)
namespace Cert.Prj.In
open Cert.Kernel2Ideal Cert.Kernel2Ideal.Gen
variable (m : (ℓ : Loc nD τ sig) → Buf (Elt Ideal) ℓ) (c : Dev nD)
theorem idxI : ∀ t : Fin cfg0.N, win0_0.index t = ![t.val, 0] ∧ win0_1.index t = ![0, 0] ∧ win0_2.index t = ![0, 0] ∧ win0_3.index t = ![0, 0] :=
  (by decide +kernel : ∀ t : Fin grid0.N, _)
theorem ltI (t : Fin cfg0.N) : t.val < 32 := t.isLt

/-- The normed row of a block. -/
theorem pay1_read (x0 : FVec Ideal S512x1024 .f32) (x1 : FVec Ideal S1x1024 .f32) (j : Fin 512) (k : Fin 1024) :
    k0_pay1 (F := Ideal) x0 x1 (ix2 j k) = nrmE (fun k => x0 (ix2 j k)) (fun k => x1 (ix2 0 k)) k := by
  pointwise [k0_pay1]
  rfl

/-- The host-prepared arrays, read at an index. -/
theorem v9 (r : Fin 16384) (k : Fin 1024) : (V m c main_v9 : FVec Ideal S16384x1024 .f32) (ix2 r k)
    = (m (c, main_arg0) : FVec Ideal S4x4096x1024 .f32) (ix3 ⟨r.val / 4096, by omega⟩ ⟨r.val % 4096, by omega⟩ k) := by
  entry_read
  pointwise
theorem v10 (l : Fin 1024) : (V m c main_v10 : FVec Ideal S1x1024 .f32) (ix2 0 l) = (m (c, main_arg1) : FVec Ideal S1024 .f32) (ix1 l) := by
  entry_read
  pointwise
theorem v1 (k : Fin 1024) (l : Fin 3904) : (V m c main_v1 : FVec Ideal S1024x3904 .bf16) (ix2 k l)
    = (m (c, main_arg2) : FVec Ideal S1024x3908 .f32) (ix2 k ⟨l.val, by omega⟩) := by
  entry_read
  pointwise
/-- The transposed weight: the keys' and values' columns, the indexer's key and weight columns, four zero rows. -/
def wtA (W : FVec Ideal S1024x3908 .f32) : FVec Ideal S840x1024 .bf16 :=
  truncf .bf16 (concatenate S840x1024 0 [⟨S768x1024, (transpose S768x1024 [1, 0] (extractStridedSlice S1024x768 ![0, 2432] W slices_S1024x3908_S1024x768_0_2432) transposes_S1024x768_S768x1024_1_0 : FVec Ideal S768x1024 .f32)⟩,
    ⟨S68x1024, (transpose S68x1024 [1, 0] (extractStridedSlice S1024x68 ![0, 3840] W slices_S1024x3908_S1024x68_0_3840) transposes_S1024x68_S68x1024_1_0 : FVec Ideal S68x1024 .f32)⟩,
    ⟨S4x1024, (broadcastInDim S4x1024 ![] bcast_S_S4x1024 (constant S_ .f32 0x00000000#32) : FVec Ideal S4x1024 .f32)⟩] concatenates_S768x1024_S68x1024_S4x1024_S840x1024_d0 : FVec Ideal S840x1024 .f32) bitsLt_bf16_f32
theorem wtA_read (W : FVec Ideal S1024x3908 .f32) (r : Fin 840) (k : Fin 1024) : wtA W (ix2 r k)
    = if h : r.val < 768 then (W (ix2 k ⟨2432 + r.val, by omega⟩) : EReal)
      else if h : r.val < 836 then W (ix2 k ⟨3072 + r.val, by omega⟩) else 0 := by
  pointwise [wtA]
  split
  · rfl
  · split
    · rename_i h1 h2
      rw [dif_pos (by omega)]
      congr 3; omega
    · rename_i h1 h2
      rw [dif_neg (by omega)]
theorem v8 : (V m c main_v8 : FVec Ideal S840x1024 .bf16) = wtA (m (c, main_arg2)) := by
  rfl

/-- The row of a point's row. -/
abbrev rwI (t : Fin cfg0.N) (j : Fin 512) : Fin 16384 := ⟨512 * t.val + j.val, by have := ltI t; omega⟩
theorem i0 (t : Fin cfg0.N) (j : Fin 512) (k : Fin 1024) : (iblk m c 0 t : Vec Ideal S512x1024 .f32) (ix2 j k)
    = (m (c, main_arg0) : FVec Ideal S4x4096x1024 .f32) (ix3 ⟨(rwI t j).val / 4096, by omega⟩ ⟨(rwI t j).val % 4096, by omega⟩ k) := by
  refine Eq.trans ?_ (v9 m c (rwI t j) k)
  blk_simp [iblk]
  blk_ext [idxI t]
theorem i1 (t : Fin cfg0.N) (l : Fin 1024) : (iblk m c 1 t : Vec Ideal S1x1024 .f32) (ix2 0 l) = (m (c, main_arg1) : FVec Ideal S1024 .f32) (ix1 l) := by
  refine Eq.trans ?_ (v10 m c l)
  blk_simp [iblk]
  blk_ext [idxI t]
theorem i2 (t : Fin cfg0.N) (k : Fin 1024) (l : Fin 3904) : (iblk m c 2 t : Vec Ideal S1024x3904 .bf16) (ix2 k l)
    = (m (c, main_arg2) : FVec Ideal S1024x3908 .f32) (ix2 k ⟨l.val, by omega⟩) := by
  refine Eq.trans ?_ (v1 m c k l)
  blk_simp [iblk]
  blk_ext [idxI t]
theorem i3 (t : Fin cfg0.N) (r : Fin 840) (k : Fin 1024) : (iblk m c 3 t : Vec Ideal S840x1024 .bf16) (ix2 r k) = wtA (m (c, main_arg2)) (ix2 r k) := by
  refine Eq.trans ?_ (congrFun (v8 m c) (ix2 r k))
  blk_simp [iblk]
  blk_ext [idxI t]

/-- The projections of the arguments. -/
def zX (X : FVec Ideal S4x4096x1024 .f32) (G : FVec Ideal S1024 .f32) (W : FVec Ideal S1024x3908 .f32) : ZT := fun b p l =>
  zE (fun k => X (ix3 b p k)) (fun k => G (ix1 k)) (fun k => W (ix2 k l))
abbrev zM : ZT := zX (m (c, main_arg0)) (m (c, main_arg1)) (m (c, main_arg2))

/-- A row of a block times a column of the weight, and times a row of the transposed weight. -/
theorem zrow (t : Fin cfg0.N) (j : Fin 512) (l : Fin 3904) :
    ∑ k : Fin 1024, (k0_pay1 (F := Ideal) (iblk m c 0 t) (iblk m c 1 t) (ix2 j k) * (iblk m c 2 t : Vec Ideal S1024x3904 .bf16) (ix2 k l) : EReal)
      = zM m c ⟨(rwI t j).val / 4096, by omega⟩ ⟨(rwI t j).val % 4096, by omega⟩ ⟨l.val, by omega⟩ := by
  simp only [pay1_read, i0, i1, i2]
  rfl
theorem zcol (t : Fin cfg0.N) (r : Fin 840) (j : Fin 512) :
    ∑ k : Fin 1024, (@HMul.hMul EReal EReal EReal _ ((iblk m c 3 t : Vec Ideal S840x1024 .bf16) (ix2 r k)) (k0_pay1 (F := Ideal) (iblk m c 0 t) (iblk m c 1 t) (ix2 j k)))
      = if h : r.val < 768 then zM m c ⟨(rwI t j).val / 4096, by omega⟩ ⟨(rwI t j).val % 4096, by omega⟩ ⟨2432 + r.val, by omega⟩
        else if h : r.val < 836 then zM m c ⟨(rwI t j).val / 4096, by omega⟩ ⟨(rwI t j).val % 4096, by omega⟩ ⟨3072 + r.val, by omega⟩ else 0 := by
  simp only [pay1_read, i0, i1, i3, wtA_read]
  split
  · exact Finset.sum_congr rfl fun k _ => mul_comm _ _
  · split
    · exact Finset.sum_congr rfl fun k _ => mul_comm _ _
    · exact by simp only [zero_mul]; exact Finset.sum_const_zero
end Cert.Prj.In
-- ==== Proof.Prj.InB.lean ====
module
public import proofs.«01_k».proof.Proof.Gen.Kernel2Ideal.Value
public import Idealize.ShloMosaic.Lib.Pointwise
public import Idealize.ShloMosaic.Lib.Claim
public import Idealize.ShloMosaic.Lib.Pipeline.ValueKit
public import Idealize.ShloMosaic.Lib.Pipeline.ReadBack
public import proofs.«01_k».proof.Proof.Prj.InK
@[expose] public section
set_option maxRecDepth 16384
noncomputable section
open Idealize.ShloMosaic Idealize.ShloMosaic.TcCoe Idealize.SL.Sem
open Idealize.ShloMosaic.Pipeline (Dat)
namespace Cert.Prj.In
open Cert.Kernel2Ideal Cert.Kernel2Ideal.Gen
variable (m : (ℓ : Loc nD τ sig) → Buf (Elt Ideal) ℓ) (c : Dev nD)
theorem idxJ : ∀ t : Fin cfg0.N, win0_4.index t = ![t.val, 0] ∧ win0_5.index t = ![t.val, 0] ∧ win0_6.index t = ![t.val, 0]
    ∧ win0_7.index t = ![t.val / 8, 0, t.val % 8] ∧ win0_8.index t = ![t.val / 8, 0, t.val % 8] ∧ win0_9.index t = ![t.val / 8, 0, t.val % 8]
    ∧ win0_10.index t = ![t.val, 0] ∧ win0_11.index t = ![t.val, 0] ∧ win0_12.index t = ![t.val / 8, 0, t.val % 8]
    ∧ win0_13.index t = ![t.val, 0] ∧ win0_14.index t = ![t.val, 0] ∧ win0_15.index t = ![t.val / 8, 0, t.val % 8] :=
  (by decide +kernel : ∀ t : Fin grid0.N, _)

/-- The batch and the position of a point's row. -/
abbrev tb (t : Fin cfg0.N) : Fin 4 := ⟨t.val / 8, by have := ltI t; omega⟩
abbrev tp (t : Fin cfg0.N) (j : Fin 512) : Fin 4096 := ⟨512 * (t.val % 8) + j.val, by omega⟩
theorem zcolP (t : Fin cfg0.N) (r : Fin 840) (j : Fin 512) :
    ∑ k : Fin 1024, @HMul.hMul EReal EReal EReal _ ((iblk m c 3 t : Vec Ideal S840x1024 .bf16) (ix2 r k)) (k0_pay1 (F := Ideal) (iblk m c 0 t) (iblk m c 1 t) (ix2 j k))
      = if h : r.val < 768 then zM m c (tb t) (tp t j) ⟨2432 + r.val, by omega⟩
        else if h : r.val < 836 then zM m c (tb t) (tp t j) ⟨3072 + r.val, by omega⟩ else 0 := by
  have e1 : (⟨(rwI t j).val / 4096, by omega⟩ : Fin 4) = tb t := Fin.ext (by show (512 * t.val + j.val) / 4096 = t.val / 8; omega)
  have e2 : (⟨(rwI t j).val % 4096, by omega⟩ : Fin 4096) = tp t j := Fin.ext (by show (512 * t.val + j.val) % 4096 = 512 * (t.val % 8) + j.val; omega)
  exact (zcol m c t r j).trans (by rw [e1, e2])

/-! What a point leaves in each result block. -/
theorem b4 (t : Fin cfg0.N) (j : Fin 512) (l : Fin 512) : (outsAt0 m c t).1 (ix2 j l) = (rowE 0 (by decide) (zM m c) (rwI t j) l : EReal) := by
  dsimp only [outsAt0]
  frame_open
  simp (disch := decide) only [↓ View.readCov_skip, ↓ View.readCov_cons_toLoadRect, ↓ View.readCov_fill]
  frame_out
  refine Eq.trans ?_ (zrow m c t j ⟨0 + l.val, by omega⟩)
  pointwise [k0_pay2, View.ld]
theorem b5 (t : Fin cfg0.N) (j : Fin 512) (l : Fin 1536) : (outsAt0 m c t).2.1 (ix2 j l) = (rowE 512 (by decide) (zM m c) (rwI t j) l : EReal) := by
  dsimp only [outsAt0]
  frame_open
  simp (disch := decide) only [↓ View.readCov_skip, ↓ View.readCov_cons_toLoadRect, ↓ View.readCov_fill]
  frame_out
  refine Eq.trans ?_ (zrow m c t j ⟨512 + l.val, by omega⟩)
  pointwise [k0_pay3, View.ld]
theorem b6 (t : Fin cfg0.N) (j : Fin 512) (l : Fin 384) : (outsAt0 m c t).2.2.1 (ix2 j l) = (rowE 3200 (by decide) (zM m c) (rwI t j) l : EReal) := by
  dsimp only [outsAt0]
  frame_open
  simp (disch := decide) only [↓ View.readCov_skip, ↓ View.readCov_cons_toLoadRect, ↓ View.readCov_fill]
  frame_out
  refine Eq.trans ?_ (zrow m c t j ⟨3200 + l.val, by omega⟩)
  pointwise [k0_pay6, View.ld]
theorem b10 (t : Fin cfg0.N) (j : Fin 512) (l : Fin 384) : (outsAt0 m c t).2.2.2.2.2.2.1 (ix2 j l) = (rowE 2048 (by decide) (zM m c) (rwI t j) l : EReal) * Ideal.ofBits FTy.f32 0x3E38AA3B#32 := by
  dsimp only [outsAt0]
  frame_open
  simp (disch := decide) only [↓ View.readCov_skip, ↓ View.readCov_cons_toLoadRect, ↓ View.readCov_fill]
  frame_out
  refine Eq.trans ?_ (congrArg (fun z : EReal => z * Ideal.ofBits FTy.f32 0x3E38AA3B#32) (zrow m c t j ⟨2048 + l.val, by omega⟩))
  pointwise [k0_pay4, View.ld]
theorem b11 (t : Fin cfg0.N) (j : Fin 512) (l : Fin 384) : (outsAt0 m c t).2.2.2.2.2.2.2.1 (ix2 j l) = (rowE 2432 (by decide) (zM m c) (rwI t j) l : EReal) := by
  dsimp only [outsAt0]
  frame_open
  simp (disch := decide) only [↓ View.readCov_skip, ↓ View.readCov_cons_toLoadRect, ↓ View.readCov_fill]
  frame_out
  refine Eq.trans ?_ (zrow m c t j ⟨2432 + l.val, by omega⟩)
  pointwise [k0_pay5, View.ld]
theorem b13 (t : Fin cfg0.N) (j : Fin 512) (l : Fin 256) : (outsAt0 m c t).2.2.2.2.2.2.2.2.2.1 (ix2 j l) = (rowE 3584 (by decide) (zM m c) (rwI t j) l : EReal) := by
  dsimp only [outsAt0]
  frame_open
  simp (disch := decide) only [↓ View.readCov_skip, ↓ View.readCov_cons_toLoadRect, ↓ View.readCov_fill]
  frame_out
  refine Eq.trans ?_ (zrow m c t j ⟨3584 + l.val, by omega⟩)
  pointwise [k0_pay7, View.ld]
theorem b14 (t : Fin cfg0.N) (j : Fin 512) (l : Fin 64) : (outsAt0 m c t).2.2.2.2.2.2.2.2.2.2.1 (ix2 j l) = (rowE 3840 (by decide) (zM m c) (rwI t j) l : EReal) := by
  dsimp only [outsAt0]
  frame_open
  simp (disch := decide) only [↓ View.readCov_skip, ↓ View.readCov_cons_toLoadRect, ↓ View.readCov_fill]
  frame_out
  refine Eq.trans ?_ (zrow m c t j ⟨3840 + l.val, by omega⟩)
  pointwise [k0_pay8, View.ld]
theorem b7 (t : Fin cfg0.N) (l : Fin 384) (j : Fin 512) : (outsAt0 m c t).2.2.2.1 (ix3 0 l j) = colE 2432 (by decide) (zM m c) (tb t) l (tp t j) := by
  dsimp only [outsAt0]
  frame_open
  simp (disch := decide) only [↓ View.readCov_skip, ↓ View.readCov_cons_toLoadRect, ↓ View.readCov_fill]
  frame_out
  refine Eq.trans ?_ ((zcolP m c t ⟨0 + l.val, by omega⟩ j).trans ((dif_pos (by show 0 + l.val < 768; omega)).trans (congrArg (zM m c _ _) (Fin.ext (by show 2432 + (0 + l.val) = 2432 + l.val; omega)))))
  pointwise [k0_pay10, k0_pay9]
theorem b8 (t : Fin cfg0.N) (l : Fin 384) (j : Fin 512) : (outsAt0 m c t).2.2.2.2.1 (ix3 0 l j) = colE 2816 (by decide) (zM m c) (tb t) l (tp t j) := by
  dsimp only [outsAt0]
  frame_open
  simp (disch := decide) only [↓ View.readCov_skip, ↓ View.readCov_cons_toLoadRect, ↓ View.readCov_fill]
  frame_out
  refine Eq.trans ?_ ((zcolP m c t ⟨384 + l.val, by omega⟩ j).trans ((dif_pos (by show 384 + l.val < 768; omega)).trans (congrArg (zM m c _ _) (Fin.ext (by show 2432 + (384 + l.val) = 2816 + l.val; omega)))))
  pointwise [k0_pay12, k0_pay11, k0_pay9]
theorem b9 (t : Fin cfg0.N) (l : Fin 64) (j : Fin 512) : (outsAt0 m c t).2.2.2.2.2.1 (ix3 0 l j) = colE 3840 (by decide) (zM m c) (tb t) l (tp t j) := by
  dsimp only [outsAt0]
  frame_open
  simp (disch := decide) only [↓ View.readCov_skip, ↓ View.readCov_cons_toLoadRect, ↓ View.readCov_fill]
  frame_out
  refine Eq.trans ?_ ((zcolP m c t ⟨768 + l.val, by omega⟩ j).trans ((dif_neg (by show ¬ (768 + l.val < 768); omega)).trans ((dif_pos (by show 768 + l.val < 836; omega)).trans (congrArg (zM m c _ _) (Fin.ext (by show 3072 + (768 + l.val) = 3840 + l.val; omega))))))
  pointwise [k0_pay27, k0_pay9]
theorem b15 (t : Fin cfg0.N) (l : Fin 8) (j : Fin 512) : (outsAt0 m c t).2.2.2.2.2.2.2.2.2.2.2 (ix3 0 l j) = wgtE (zM m c) (tb t) l (tp t j) := by
  dsimp only [outsAt0]
  frame_open
  simp (disch := decide) only [↓ View.readCov_skip, ↓ View.readCov_cons_toLoadRect, ↓ View.readCov_fill]
  frame_out
  refine Eq.trans ?_ (congrArg (fun z : EReal => z * Ideal.ofBits FTy.f32 0x3D800000#32) ((zcolP m c t ⟨832 + l.val, by omega⟩ j).trans ?_))
  · pointwise [k0_pay28, k0_pay9]
  · refine (dif_neg (by show ¬ (832 + l.val < 768); omega)).trans ?_
    by_cases h : l.val < 4
    · exact (dif_pos (by show 832 + l.val < 836; omega)).trans (by rw [dif_pos h]; exact congrArg (zM m c _ _) (Fin.ext (by show 3072 + (832 + l.val) = 3904 + l.val; omega)))
    · exact (dif_neg (by show ¬ (832 + l.val < 836); omega)).trans (by rw [dif_neg h])
end Cert.Prj.In
-- ==== Proof.Prj.InV.lean ====
module
public import proofs.«01_k».proof.Proof.Gen.Kernel2Ideal.Value
public import Idealize.ShloMosaic.Lib.Pointwise
public import Idealize.ShloMosaic.Lib.Claim
public import Idealize.ShloMosaic.Lib.Pipeline.ValueKit
public import Idealize.ShloMosaic.Lib.Pipeline.ReadBack
public import proofs.«01_k».proof.Proof.Prj.InB
@[expose] public section
set_option maxRecDepth 16384
noncomputable section
open Idealize.ShloMosaic Idealize.ShloMosaic.TcCoe Idealize.SL.Sem
open Idealize.ShloMosaic.Pipeline (Dat)
namespace Cert.Prj.In
open Cert.Kernel2Ideal Cert.Kernel2Ideal.Gen
variable (m : (ℓ : Loc nD τ sig) → Buf (Elt Ideal) ℓ) (c : Dev nD)
/-- A value's column, at its place among the heads. -/
theorem zval (t : Fin cfg0.N) (R : Fin 480) (j : Fin 512) (h : R.val % 80 < 64) :
    ∑ k : Fin 1024, @HMul.hMul EReal EReal EReal _ ((iblk m c 3 t : Vec Ideal S840x1024 .bf16) (ix2 ⟨384 + (R.val / 80 * 64 + R.val % 80), by omega⟩ k))
        (k0_pay1 (F := Ideal) (iblk m c 0 t) (iblk m c 1 t) (ix2 j k))
      = valE (zM m c) (tb t) R (tp t j) := by
  refine (zcolP m c t _ j).trans ((dif_pos (by show 384 + (R.val / 80 * 64 + R.val % 80) < 768; omega)).trans (Eq.trans ?_ (dif_pos h).symm))
  exact congrArg (zM m c _ _) (Fin.ext (by show 2432 + (384 + (R.val / 80 * 64 + R.val % 80)) = 2816 + (R.val / 80 * 64 + R.val % 80); omega))

set_option maxHeartbeats 4000000 in
theorem b12 (t : Fin cfg0.N) (R : Fin 480) (j : Fin 512) : (outsAt0 m c t).2.2.2.2.2.2.2.2.1 (ix3 0 R j) = valE (zM m c) (tb t) R (tp t j) := by
  dsimp only [outsAt0]
  frame_open
  simp (disch := decide) only [↓ View.readCov_skip, ↓ View.readCov_cons_toLoadRect, ↓ View.readCov_fill]
  frame_out
  canon_tiles x hx using (View.cover_of_tiledBy _ ![1, 16, 512] (by sl_kernel_rfl) _)
  all_goals
    have e0 : x 0 = (0 : Fin 1) := Subsingleton.elim (α := Fin 1) _ _
    have h1 : R.val = _ := hx1
    have h2 : j = x 2 := Fin.ext hx2
    subst h2
    rw [eq_ix3 x, e0]
  case piece0 | piece2 | piece4 | piece6 | piece8 | piece10 =>
    refine Eq.trans ?_ (dif_neg (by omega)).symm
    pointwise [k0_pay13, k0_pay15, k0_pay17, k0_pay19, k0_pay22, k0_pay24, k0_pay26]
  case piece1 | piece3 | piece5 | piece7 | piece9 | piece11 =>
    refine Eq.trans ?_ (zval m c t R (x 2) (by omega))
    pointwise [k0_pay25, k0_pay23, k0_pay21, k0_pay20, k0_pay18, k0_pay16, k0_pay14, k0_pay11, k0_pay9]
    exact Finset.sum_congr rfl fun k _ => congrArg (fun q : Fin 840 => @HMul.hMul EReal EReal EReal _ ((iblk m c 3 t : Vec Ideal S840x1024 .bf16) (ix2 q k))
      (k0_pay1 (F := Ideal) (iblk m c 0 t) (iblk m c 1 t) (ix2 (x 2) k))) (Fin.ext (by first | (dsimp only; omega) | omega))
end Cert.Prj.In
-- ==== Proof.Prj.InF.lean ====
module
public import proofs.«01_k».proof.Proof.Gen.Kernel2Ideal.Value
public import Idealize.ShloMosaic.Lib.Pointwise
public import Idealize.ShloMosaic.Lib.Claim
public import Idealize.ShloMosaic.Lib.Pipeline.ValueKit
public import Idealize.ShloMosaic.Lib.Pipeline.ReadBack
public import proofs.«01_k».proof.Proof.Prj.InV
@[expose] public section
set_option maxRecDepth 16384
noncomputable section
open Idealize.ShloMosaic Idealize.ShloMosaic.TcCoe Idealize.SL.Sem
open Idealize.ShloMosaic.Pipeline (Dat)
namespace Cert.Prj.In
open Cert.Kernel2Ideal Cert.Kernel2Ideal.Gen
variable (m : (ℓ : Loc nD τ sig) → Buf (Elt Ideal) ℓ) (c : Dev nD)
/-! The result arrays. -/
def a4 : FVec Ideal S16384x512 .f32 := fun i => (rowE 0 (by decide) (zM m c) (i 0) (i 1) : EReal)
def a5 : FVec Ideal S16384x1536 .f32 := fun i => (rowE 512 (by decide) (zM m c) (i 0) (i 1) : EReal)
def a6 : FVec Ideal S16384x384 .f32 := fun i => (rowE 3200 (by decide) (zM m c) (i 0) (i 1) : EReal)
def a10 : FVec Ideal S16384x384 .bf16 := fun i => (rowE 2048 (by decide) (zM m c) (i 0) (i 1) : EReal) * Ideal.ofBits FTy.f32 0x3E38AA3B#32
def a11 : FVec Ideal S16384x384 .bf16 := fun i => (rowE 2432 (by decide) (zM m c) (i 0) (i 1) : EReal)
def a13 : FVec Ideal S16384x256 .bf16 := fun i => (rowE 3584 (by decide) (zM m c) (i 0) (i 1) : EReal)
def a14 : FVec Ideal S16384x64 .bf16 := fun i => (rowE 3840 (by decide) (zM m c) (i 0) (i 1) : EReal)
def a7 : FVec Ideal S4x384x4096 .f32 := fun i => colE 2432 (by decide) (zM m c) (i 0) (i 1) (i 2)
def a8 : FVec Ideal S4x384x4096 .f32 := fun i => colE 2816 (by decide) (zM m c) (i 0) (i 1) (i 2)
def a9 : FVec Ideal S4x64x4096 .f32 := fun i => colE 3840 (by decide) (zM m c) (i 0) (i 1) (i 2)
def a12 : FVec Ideal S4x480x4096 .bf16 := fun i => valE (zM m c) (i 0) (i 1) (i 2)
def a15 : FVec Ideal S4x8x4096 .f32 := fun i => wgtE (zM m c) (i 0) (i 1) (i 2)
theorem c4 (t : Fin cfg0.N) (y : S512x512.Idx) : (outsAt0 m c t).1 y = a4 m c (ix2 (rwI t (y 0)) (y 1)) := by
  have key := b4 m c t
  generalize (outsAt0 m c t).1 = O at key ⊢
  rw [eq_ix2 y]
  exact key (y 0) (y 1)
theorem f4 : (dats m 0 c).arrAt 4 cfg0.N = a4 m c := by
  refine (dats m 0 c).arrAt_eq_of_covers 4 _ (by decide +kernel) fun t _ y => ?_
  blk_simp
  rw [after0_4]
  refine (c4 m c t y).trans (congrArg (a4 m c) ?_)
  blk_ext [idxJ t]
theorem c5 (t : Fin cfg0.N) (y : S512x1536.Idx) : (outsAt0 m c t).2.1 y = a5 m c (ix2 (rwI t (y 0)) (y 1)) := by
  have key := b5 m c t
  generalize (outsAt0 m c t).2.1 = O at key ⊢
  rw [eq_ix2 y]
  exact key (y 0) (y 1)
theorem f5 : (dats m 0 c).arrAt 5 cfg0.N = a5 m c := by
  refine (dats m 0 c).arrAt_eq_of_covers 5 _ (by decide +kernel) fun t _ y => ?_
  blk_simp
  rw [after0_5]
  refine (c5 m c t y).trans (congrArg (a5 m c) ?_)
  blk_ext [idxJ t]
theorem c6 (t : Fin cfg0.N) (y : S512x384.Idx) : (outsAt0 m c t).2.2.1 y = a6 m c (ix2 (rwI t (y 0)) (y 1)) := by
  have key := b6 m c t
  generalize (outsAt0 m c t).2.2.1 = O at key ⊢
  rw [eq_ix2 y]
  exact key (y 0) (y 1)
theorem f6 : (dats m 0 c).arrAt 6 cfg0.N = a6 m c := by
  refine (dats m 0 c).arrAt_eq_of_covers 6 _ (by decide +kernel) fun t _ y => ?_
  blk_simp
  rw [after0_6]
  refine (c6 m c t y).trans (congrArg (a6 m c) ?_)
  blk_ext [idxJ t]
theorem c7 (t : Fin cfg0.N) (y : S1x384x512.Idx) : (outsAt0 m c t).2.2.2.1 y = a7 m c (ix3 (tb t) (y 1) (tp t (y 2))) := by
  have key := b7 m c t
  generalize (outsAt0 m c t).2.2.2.1 = O at key ⊢
  have e : y 0 = (0 : Fin 1) := Subsingleton.elim (α := Fin 1) _ _
  rw [eq_ix3 y, e]
  exact key (y 1) (y 2)
theorem f7 : (dats m 0 c).arrAt 7 cfg0.N = a7 m c := by
  refine (dats m 0 c).arrAt_eq_of_covers 7 _ (by decide +kernel) fun t _ y => ?_
  blk_simp
  rw [after0_7]
  refine (c7 m c t y).trans (congrArg (a7 m c) ?_)
  blk_ext [idxJ t]
theorem c8 (t : Fin cfg0.N) (y : S1x384x512.Idx) : (outsAt0 m c t).2.2.2.2.1 y = a8 m c (ix3 (tb t) (y 1) (tp t (y 2))) := by
  have key := b8 m c t
  generalize (outsAt0 m c t).2.2.2.2.1 = O at key ⊢
  have e : y 0 = (0 : Fin 1) := Subsingleton.elim (α := Fin 1) _ _
  rw [eq_ix3 y, e]
  exact key (y 1) (y 2)
theorem f8 : (dats m 0 c).arrAt 8 cfg0.N = a8 m c := by
  refine (dats m 0 c).arrAt_eq_of_covers 8 _ (by decide +kernel) fun t _ y => ?_
  blk_simp
  rw [after0_8]
  refine (c8 m c t y).trans (congrArg (a8 m c) ?_)
  blk_ext [idxJ t]
theorem c9 (t : Fin cfg0.N) (y : S1x64x512.Idx) : (outsAt0 m c t).2.2.2.2.2.1 y = a9 m c (ix3 (tb t) (y 1) (tp t (y 2))) := by
  have key := b9 m c t
  generalize (outsAt0 m c t).2.2.2.2.2.1 = O at key ⊢
  have e : y 0 = (0 : Fin 1) := Subsingleton.elim (α := Fin 1) _ _
  rw [eq_ix3 y, e]
  exact key (y 1) (y 2)
theorem f9 : (dats m 0 c).arrAt 9 cfg0.N = a9 m c := by
  refine (dats m 0 c).arrAt_eq_of_covers 9 _ (by decide +kernel) fun t _ y => ?_
  blk_simp
  rw [after0_9]
  refine (c9 m c t y).trans (congrArg (a9 m c) ?_)
  blk_ext [idxJ t]
theorem c10 (t : Fin cfg0.N) (y : S512x384.Idx) : (outsAt0 m c t).2.2.2.2.2.2.1 y = a10 m c (ix2 (rwI t (y 0)) (y 1)) := by
  have key := b10 m c t
  generalize (outsAt0 m c t).2.2.2.2.2.2.1 = O at key ⊢
  rw [eq_ix2 y]
  exact key (y 0) (y 1)
theorem f10 : (dats m 0 c).arrAt 10 cfg0.N = a10 m c := by
  refine (dats m 0 c).arrAt_eq_of_covers 10 _ (by decide +kernel) fun t _ y => ?_
  blk_simp
  rw [after0_10]
  refine (c10 m c t y).trans (congrArg (a10 m c) ?_)
  blk_ext [idxJ t]
theorem c11 (t : Fin cfg0.N) (y : S512x384.Idx) : (outsAt0 m c t).2.2.2.2.2.2.2.1 y = a11 m c (ix2 (rwI t (y 0)) (y 1)) := by
  have key := b11 m c t
  generalize (outsAt0 m c t).2.2.2.2.2.2.2.1 = O at key ⊢
  rw [eq_ix2 y]
  exact key (y 0) (y 1)
theorem f11 : (dats m 0 c).arrAt 11 cfg0.N = a11 m c := by
  refine (dats m 0 c).arrAt_eq_of_covers 11 _ (by decide +kernel) fun t _ y => ?_
  blk_simp
  rw [after0_11]
  refine (c11 m c t y).trans (congrArg (a11 m c) ?_)
  blk_ext [idxJ t]
theorem c12 (t : Fin cfg0.N) (y : S1x480x512.Idx) : (outsAt0 m c t).2.2.2.2.2.2.2.2.1 y = a12 m c (ix3 (tb t) (y 1) (tp t (y 2))) := by
  have key := b12 m c t
  generalize (outsAt0 m c t).2.2.2.2.2.2.2.2.1 = O at key ⊢
  have e : y 0 = (0 : Fin 1) := Subsingleton.elim (α := Fin 1) _ _
  rw [eq_ix3 y, e]
  exact key (y 1) (y 2)
theorem f12 : (dats m 0 c).arrAt 12 cfg0.N = a12 m c := by
  refine (dats m 0 c).arrAt_eq_of_covers 12 _ (by decide +kernel) fun t _ y => ?_
  blk_simp
  rw [after0_12]
  refine (c12 m c t y).trans (congrArg (a12 m c) ?_)
  blk_ext [idxJ t]
theorem c13 (t : Fin cfg0.N) (y : S512x256.Idx) : (outsAt0 m c t).2.2.2.2.2.2.2.2.2.1 y = a13 m c (ix2 (rwI t (y 0)) (y 1)) := by
  have key := b13 m c t
  generalize (outsAt0 m c t).2.2.2.2.2.2.2.2.2.1 = O at key ⊢
  rw [eq_ix2 y]
  exact key (y 0) (y 1)
theorem f13 : (dats m 0 c).arrAt 13 cfg0.N = a13 m c := by
  refine (dats m 0 c).arrAt_eq_of_covers 13 _ (by decide +kernel) fun t _ y => ?_
  blk_simp
  rw [after0_13]
  refine (c13 m c t y).trans (congrArg (a13 m c) ?_)
  blk_ext [idxJ t]
theorem c14 (t : Fin cfg0.N) (y : S512x64.Idx) : (outsAt0 m c t).2.2.2.2.2.2.2.2.2.2.1 y = a14 m c (ix2 (rwI t (y 0)) (y 1)) := by
  have key := b14 m c t
  generalize (outsAt0 m c t).2.2.2.2.2.2.2.2.2.2.1 = O at key ⊢
  rw [eq_ix2 y]
  exact key (y 0) (y 1)
theorem f14 : (dats m 0 c).arrAt 14 cfg0.N = a14 m c := by
  refine (dats m 0 c).arrAt_eq_of_covers 14 _ (by decide +kernel) fun t _ y => ?_
  blk_simp
  rw [after0_14]
  refine (c14 m c t y).trans (congrArg (a14 m c) ?_)
  blk_ext [idxJ t]
theorem c15 (t : Fin cfg0.N) (y : S1x8x512.Idx) : (outsAt0 m c t).2.2.2.2.2.2.2.2.2.2.2 y = a15 m c (ix3 (tb t) (y 1) (tp t (y 2))) := by
  have key := b15 m c t
  generalize (outsAt0 m c t).2.2.2.2.2.2.2.2.2.2.2 = O at key ⊢
  have e : y 0 = (0 : Fin 1) := Subsingleton.elim (α := Fin 1) _ _
  rw [eq_ix3 y, e]
  exact key (y 1) (y 2)
theorem f15 : (dats m 0 c).arrAt 15 cfg0.N = a15 m c := by
  refine (dats m 0 c).arrAt_eq_of_covers 15 _ (by decide +kernel) fun t _ y => ?_
  blk_simp
  rw [after0_15]
  refine (c15 m c t y).trans (congrArg (a15 m c) ?_)
  blk_ext [idxJ t]
end Cert.Prj.In
-- ==== Proof.Prj.InR.lean ====
module
public import proofs.«01_k».proof.Proof.Gen.Reference2Ideal.Run
public import proofs.«01_k».proof.Proof.Prj.InK
public import Idealize.ShloMosaic.Lib.Pointwise
public import Idealize.ShloMosaic.Lib.Claim
public import Idealize.ShloMosaic.Lib.Pipeline.ValueKit
@[expose] public section
set_option maxRecDepth 16384
noncomputable section
open Idealize.ShloMosaic Idealize.ShloMosaic.TcCoe Idealize.SL.Sem
namespace Cert.Prj.In
open Cert.Reference2Ideal Cert.Reference2Ideal.Gen
/-- The reference's projections. -/
def zR (X : FVec Ideal S4x4096x1024 .f32) (G : FVec Ideal S1024 .f32) (W : FVec Ideal S1024x3908 .f32) : FVec Ideal S4x4096x3908 .f32 :=
  Host.dotGeneral dot_S4x4096x1024_S1024x3908_S4x4096x3908_2_0_01_1_n_n none (mulf (mulf X (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf X X) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 G))) W
theorem zR_read (X : FVec Ideal S4x4096x1024 .f32) (G : FVec Ideal S1024 .f32) (W : FVec Ideal S1024x3908 .f32) (b : Fin 4) (p : Fin 4096) (l : Fin 3908) :
    zR X G W (ix3 b p l) = zX X G W b p l := by
  pointwise [zR]
  rfl

variable (Z : FVec Ideal S4x4096x3908 .f32) (F : ZT) (hZ : ∀ b p l, Z (ix3 b p l) = F b p l)
include hZ
/-! The reference's results, of its projections. -/
def q4 (Z : FVec Ideal S4x4096x3908 .f32) : FVec Ideal S16384x512 .f32 :=
  shapeCast S16384x512 (concatenate S4x4096x512 2 [⟨S4x4096x256, (extractStridedSlice S4x4096x256 ![0, 0, 0] Z slices_S4x4096x3908_S4x4096x256_0_0_0 : FVec Ideal S4x4096x256 .f32)⟩, ⟨S4x4096x256, (extractStridedSlice S4x4096x256 ![0, 0, 256] Z slices_S4x4096x3908_S4x4096x256_0_0_256 : FVec Ideal S4x4096x256 .f32)⟩] concatenates_S4x4096x256_S4x4096x256_S4x4096x512_d2) shapeCasts_S4x4096x512_S16384x512
def q5 (Z : FVec Ideal S4x4096x3908 .f32) : FVec Ideal S16384x1536 .f32 :=
  shapeCast S16384x1536 ((concatenate S4x4096x1536 2 [⟨S4x4096x384, ((extractStridedSlice S4x4096x384 ![0, 0, 512] Z slices_S4x4096x3908_S4x4096x384_0_0_512) : FVec Ideal S4x4096x384 .f32)⟩, ⟨S4x4096x384, ((extractStridedSlice S4x4096x384 ![0, 0, 896] Z slices_S4x4096x3908_S4x4096x384_0_0_896) : FVec Ideal S4x4096x384 .f32)⟩, ⟨S4x4096x384, ((extractStridedSlice S4x4096x384 ![0, 0, 1280] Z slices_S4x4096x3908_S4x4096x384_0_0_1280) : FVec Ideal S4x4096x384 .f32)⟩, ⟨S4x4096x384, ((extractStridedSlice S4x4096x384 ![0, 0, 1664] Z slices_S4x4096x3908_S4x4096x384_0_0_1664) : FVec Ideal S4x4096x384 .f32)⟩] concatenates_S4x4096x384_S4x4096x384_S4x4096x384_S4x4096x384_S4x4096x1536_d2 : FVec Ideal S4x4096x1536 .f32)) shapeCasts_S4x4096x1536_S16384x1536
def q6 (Z : FVec Ideal S4x4096x3908 .f32) : FVec Ideal S16384x384 .f32 :=
  shapeCast S16384x384 (extractStridedSlice S4x4096x384 ![0, 0, 3200] Z slices_S4x4096x3908_S4x4096x384_0_0_3200) shapeCasts_S4x4096x384_S16384x384
def q7 (Z : FVec Ideal S4x4096x3908 .f32) : FVec Ideal S4x384x4096 .f32 :=
  transpose S4x384x4096 [0, 2, 1] (extractStridedSlice S4x4096x384 ![0, 0, 2432] Z slices_S4x4096x3908_S4x4096x384_0_0_2432) transposes_S4x4096x384_S4x384x4096_0_2_1
def q8 (Z : FVec Ideal S4x4096x3908 .f32) : FVec Ideal S4x384x4096 .f32 :=
  transpose S4x384x4096 [0, 2, 1] (extractStridedSlice S4x4096x384 ![0, 0, 2816] Z slices_S4x4096x3908_S4x4096x384_0_0_2816) transposes_S4x4096x384_S4x384x4096_0_2_1
def q9 (Z : FVec Ideal S4x4096x3908 .f32) : FVec Ideal S4x64x4096 .f32 :=
  transpose S4x64x4096 [0, 2, 1] (extractStridedSlice S4x4096x64 ![0, 0, 3840] Z slices_S4x4096x3908_S4x4096x64_0_0_3840) transposes_S4x4096x64_S4x64x4096_0_2_1
def q10 (Z : FVec Ideal S4x4096x3908 .f32) : FVec Ideal S16384x384 .bf16 :=
  truncf .bf16 (shapeCast S16384x384 (mulf (extractStridedSlice S4x4096x384 ![0, 0, 2048] Z slices_S4x4096x3908_S4x4096x384_0_0_2048) (broadcastInDim S4x4096x384 ![] bcast_S_S4x4096x384 (constant S_ .f32 0x3E38AA3B#32))) shapeCasts_S4x4096x384_S16384x384) bitsLt_bf16_f32
def q11 (Z : FVec Ideal S4x4096x3908 .f32) : FVec Ideal S16384x384 .bf16 :=
  truncf .bf16 (shapeCast S16384x384 (extractStridedSlice S4x4096x384 ![0, 0, 2432] Z slices_S4x4096x3908_S4x4096x384_0_0_2432) shapeCasts_S4x4096x384_S16384x384) bitsLt_bf16_f32
def u12 (Z : FVec Ideal S4x4096x3908 .f32) : FVec Ideal S4x4096x6x64 .f32 :=
  (shapeCast S4x4096x6x64 (extractStridedSlice S4x4096x384 ![0, 0, 2816] Z slices_S4x4096x3908_S4x4096x384_0_0_2816) shapeCasts_S4x4096x384_S4x4096x6x64 : FVec Ideal S4x4096x6x64 .f32)
def o12 (U : FVec Ideal S4x4096x6x64 .f32) : FVec Ideal S4x4096x6x80 .f32 :=
  (concatenate S4x4096x6x80 3 [⟨S4x4096x6x64, U⟩, ⟨S4x4096x6x16, (broadcastInDim S4x4096x6x16 ![] bcast_S_S4x4096x6x16 (constant S_ .f32 0x3F800000#32) : FVec Ideal S4x4096x6x16 .f32)⟩] concatenates_S4x4096x6x64_S4x4096x6x16_S4x4096x6x80_d3)
def q12 (Z : FVec Ideal S4x4096x3908 .f32) : FVec Ideal S4x480x4096 .bf16 :=
  truncf .bf16 (transpose S4x480x4096 [0, 2, 1] (shapeCast S4x4096x480 (o12 (u12 Z)) shapeCasts_S4x4096x6x80_S4x4096x480) transposes_S4x4096x480_S4x480x4096_0_2_1) bitsLt_bf16_f32
def q13 (Z : FVec Ideal S4x4096x3908 .f32) : FVec Ideal S16384x256 .bf16 :=
  truncf .bf16 (shapeCast S16384x256 (extractStridedSlice S4x4096x256 ![0, 0, 3584] Z slices_S4x4096x3908_S4x4096x256_0_0_3584) shapeCasts_S4x4096x256_S16384x256) bitsLt_bf16_f32
def q14 (Z : FVec Ideal S4x4096x3908 .f32) : FVec Ideal S16384x64 .bf16 :=
  truncf .bf16 (shapeCast S16384x64 (extractStridedSlice S4x4096x64 ![0, 0, 3840] Z slices_S4x4096x3908_S4x4096x64_0_0_3840) shapeCasts_S4x4096x64_S16384x64) bitsLt_bf16_f32
def q15 (Z : FVec Ideal S4x4096x3908 .f32) : FVec Ideal S4x8x4096 .f32 :=
  transpose S4x8x4096 [0, 2, 1] (mulf (concatenate S4x4096x8 2 [⟨S4x4096x4, (extractStridedSlice S4x4096x4 ![0, 0, 3904] Z slices_S4x4096x3908_S4x4096x4_0_0_3904 : FVec Ideal S4x4096x4 .f32)⟩, ⟨S4x4096x4, (broadcastInDim S4x4096x4 ![] bcast_S_S4x4096x4 (constant S_ .f32 0x00000000#32) : FVec Ideal S4x4096x4 .f32)⟩] concatenates_S4x4096x4_S4x4096x4_S4x4096x8_d2) (broadcastInDim S4x4096x8 ![] bcast_S_S4x4096x8 (constant S_ .f32 0x3D800000#32))) transposes_S4x4096x8_S4x8x4096_0_2_1
theorem q4_read (r : Fin 16384) (l : Fin 512) : q4 Z (ix2 r l) = rowE 0 (by decide) F r l := by
  pointwise [q4]
  repeat' split
  all_goals exact (hZ _ _ _).trans (congrArg (F _ _) (Fin.ext (by first | rfl | (dsimp only; omega) | omega)))
theorem q5_read (r : Fin 16384) (l : Fin 1536) : q5 Z (ix2 r l) = rowE 512 (by decide) F r l := by
  pointwise [q5]
  repeat' split
  all_goals exact (hZ _ _ _).trans (congrArg (F _ _) (Fin.ext (by first | rfl | (dsimp only; omega) | omega)))
theorem q6_read (r : Fin 16384) (l : Fin 384) : q6 Z (ix2 r l) = (rowE 3200 (by decide) F r l : EReal) := by
  refine Eq.trans ?_ (congrArg (fun z : EReal => z) (hZ _ _ _))
  pointwise [q6]
theorem q7_read (b : Fin 4) (l : Fin 384) (p : Fin 4096) : q7 Z (ix3 b l p) = colE 2432 (by decide) F b l p := by
  refine Eq.trans ?_ (hZ _ _ _)
  pointwise [q7]
theorem q8_read (b : Fin 4) (l : Fin 384) (p : Fin 4096) : q8 Z (ix3 b l p) = colE 2816 (by decide) F b l p := by
  refine Eq.trans ?_ (hZ _ _ _)
  pointwise [q8]
theorem q9_read (b : Fin 4) (l : Fin 64) (p : Fin 4096) : q9 Z (ix3 b l p) = colE 3840 (by decide) F b l p := by
  refine Eq.trans ?_ (hZ _ _ _)
  pointwise [q9]
theorem q10_read (r : Fin 16384) (l : Fin 384) : q10 Z (ix2 r l) = (rowE 2048 (by decide) F r l : EReal) * Ideal.ofBits FTy.f32 0x3E38AA3B#32 := by
  refine Eq.trans ?_ (congrArg (fun z : EReal => z * Ideal.ofBits FTy.f32 0x3E38AA3B#32) (hZ _ _ _))
  pointwise [q10]
theorem q11_read (r : Fin 16384) (l : Fin 384) : q11 Z (ix2 r l) = (rowE 2432 (by decide) F r l : EReal) := by
  refine Eq.trans ?_ (congrArg (fun z : EReal => z) (hZ _ _ _))
  pointwise [q11]
theorem u12_read (b : Fin 4) (p : Fin 4096) (h : Fin 6) (e : Fin 64) : u12 Z (ix4 b p h e) = F b p ⟨2816 + (h.val * 64 + e.val), by omega⟩ := by
  refine Eq.trans ?_ (hZ _ _ _)
  pointwise [u12]
omit hZ in
theorem o12_read (U : FVec Ideal S4x4096x6x64 .f32) (b : Fin 4) (p : Fin 4096) (h : Fin 6) (e : Fin 80) : o12 U (ix4 b p h e)
    = if he : e.val < 64 then (U (ix4 b p h ⟨e.val, he⟩) : EReal) else Ideal.ofBits FTy.f32 0x3F800000#32 := by
  pointwise [o12]
omit hZ in
theorem fl12 (C : FVec Ideal S4x4096x6x80 .f32) (b : Fin 4) (p : Fin 4096) (R : Fin 480) :
    (shapeCast S4x4096x480 C shapeCasts_S4x4096x6x80_S4x4096x480 : FVec Ideal S4x4096x480 .f32) (ix3 b p R) = C (ix4 b p ⟨R.val / 80, by omega⟩ ⟨R.val % 80, by omega⟩) := by
  pointwise
omit hZ in
theorem tr12 (C : FVec Ideal S4x4096x480 .f32) (b : Fin 4) (p : Fin 4096) (R : Fin 480) :
    (truncf .bf16 (transpose S4x480x4096 [0, 2, 1] C transposes_S4x4096x480_S4x480x4096_0_2_1 : FVec Ideal S4x480x4096 .f32) bitsLt_bf16_f32 : FVec Ideal S4x480x4096 .bf16) (ix3 b R p) = (C (ix3 b p R) : EReal) := by
  pointwise
theorem q12_read (b : Fin 4) (R : Fin 480) (p : Fin 4096) : q12 Z (ix3 b R p) = valE F b R p := by
  refine (tr12 _ _ _ _).trans ((fl12 _ _ _ _).trans ((o12_read _ _ _ _ _).trans ?_))
  simp only [u12_read Z F hZ]
  rfl
theorem q13_read (r : Fin 16384) (l : Fin 256) : q13 Z (ix2 r l) = (rowE 3584 (by decide) F r l : EReal) := by
  refine Eq.trans ?_ (congrArg (fun z : EReal => z) (hZ _ _ _))
  pointwise [q13]
theorem q14_read (r : Fin 16384) (l : Fin 64) : q14 Z (ix2 r l) = (rowE 3840 (by decide) F r l : EReal) := by
  refine Eq.trans ?_ (congrArg (fun z : EReal => z) (hZ _ _ _))
  pointwise [q14]
theorem q15_read (b : Fin 4) (R : Fin 8) (p : Fin 4096) : q15 Z (ix3 b R p) = wgtE F b R p := by
  pointwise [q15]
  simp only [hZ]
  rfl
end Cert.Prj.In
-- ==== Proof.Prj.InE.lean ====
module
public import proofs.«01_k».proof.Proof.Gen.Reference2Ideal.Run
public import proofs.«01_k».proof.Proof.Prj.InF
public import proofs.«01_k».proof.Proof.Prj.InR
public import Idealize.ShloMosaic.Lib.Pointwise
public import Idealize.ShloMosaic.Lib.Claim
public import Idealize.ShloMosaic.Lib.Pipeline.ValueKit
@[expose] public section
set_option maxRecDepth 16384
noncomputable section
open Idealize.ShloMosaic Idealize.ShloMosaic.TcCoe Idealize.SL.Sem
namespace Cert.Prj.In
open Cert.Reference2Ideal Cert.Reference2Ideal.Gen
variable (m' : (ℓ : Loc nD τ sig) → Buf (Elt Ideal) ℓ) (c' : Dev nD)
  (m : (ℓ : Loc Cert.Kernel2Ideal.nD Cert.Kernel2Ideal.τ Cert.Kernel2Ideal.sig) → Buf (Elt Ideal) ℓ) (c : Dev Cert.Kernel2Ideal.nD)
  (h0 : m' (c', main_arg0) = m (c, Cert.Kernel2Ideal.main_arg0)) (h1 : m' (c', main_arg1) = m (c, Cert.Kernel2Ideal.main_arg1))
  (h2 : m' (c', main_arg2) = m (c, Cert.Kernel2Ideal.main_arg2))
/-- The projections of the reference's arguments. -/
abbrev zr : FVec Ideal S4x4096x3908 .f32 := zR (m' (c', main_arg0)) (m' (c', main_arg1)) (m' (c', main_arg2))
include h0 h1 h2
theorem zr_read (b : Fin 4) (p : Fin 4096) (l : Fin 3908) : zr m' c' (ix3 b p l) = zM m c b p l := by
  unfold zr
  rw [h0, h1, h2]
  exact zR_read _ _ _ b p l
/-! The reference's results are the kernel's, from the same arguments. -/
theorem e4 : q4 (zr m' c') = a4 m c := by
  funext i
  exact (congrArg _ (eq_ix2 i)).trans (q4_read _ _ (zr_read m' c' m c h0 h1 h2) (i 0) (i 1))
theorem e5 : q5 (zr m' c') = a5 m c := by
  funext i
  exact (congrArg _ (eq_ix2 i)).trans (q5_read _ _ (zr_read m' c' m c h0 h1 h2) (i 0) (i 1))
theorem e6 : q6 (zr m' c') = a6 m c := by
  funext i
  exact (congrArg _ (eq_ix2 i)).trans (q6_read _ _ (zr_read m' c' m c h0 h1 h2) (i 0) (i 1))
theorem e7 : q7 (zr m' c') = a7 m c := by
  funext i
  exact (congrArg _ (eq_ix3 i)).trans (q7_read _ _ (zr_read m' c' m c h0 h1 h2) (i 0) (i 1) (i 2))
theorem e8 : q8 (zr m' c') = a8 m c := by
  funext i
  exact (congrArg _ (eq_ix3 i)).trans (q8_read _ _ (zr_read m' c' m c h0 h1 h2) (i 0) (i 1) (i 2))
theorem e9 : q9 (zr m' c') = a9 m c := by
  funext i
  exact (congrArg _ (eq_ix3 i)).trans (q9_read _ _ (zr_read m' c' m c h0 h1 h2) (i 0) (i 1) (i 2))
theorem e10 : q10 (zr m' c') = a10 m c := by
  funext i
  exact (congrArg _ (eq_ix2 i)).trans (q10_read _ _ (zr_read m' c' m c h0 h1 h2) (i 0) (i 1))
theorem e11 : q11 (zr m' c') = a11 m c := by
  funext i
  exact (congrArg _ (eq_ix2 i)).trans (q11_read _ _ (zr_read m' c' m c h0 h1 h2) (i 0) (i 1))
theorem e12 : q12 (zr m' c') = a12 m c := by
  funext i
  exact (congrArg _ (eq_ix3 i)).trans (q12_read _ _ (zr_read m' c' m c h0 h1 h2) (i 0) (i 1) (i 2))
theorem e13 : q13 (zr m' c') = a13 m c := by
  funext i
  exact (congrArg _ (eq_ix2 i)).trans (q13_read _ _ (zr_read m' c' m c h0 h1 h2) (i 0) (i 1))
theorem e14 : q14 (zr m' c') = a14 m c := by
  funext i
  exact (congrArg _ (eq_ix2 i)).trans (q14_read _ _ (zr_read m' c' m c h0 h1 h2) (i 0) (i 1))
theorem e15 : q15 (zr m' c') = a15 m c := by
  funext i
  exact (congrArg _ (eq_ix3 i)).trans (q15_read _ _ (zr_read m' c' m c h0 h1 h2) (i 0) (i 1) (i 2))
end Cert.Prj.In
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Ret.Join
public import proofs.«01_k».proof.Proof.Prj.OutR
public import proofs.«01_k».proof.Proof.Prj.InE
public import Idealize.ShloMosaic.Adequacy
public import Idealize.ShloMosaic.Init

@[expose] public section

noncomputable section

namespace Cert.Proof

open Idealize.ShloMosaic Idealize.SL.Sem Cert.Kernel

/-- The reference terminates, keeps its arguments and leaves its counters at zero. -/
theorem frame_ref : Cert.quiescent_ReferenceIdeal (hReferenceIdeal := Cert.ReferenceIdeal.Gen.facts) :=
  fun m ρ _ => (θ_run _ _ _).mono (fun r h => ⟨fun c => (h c).2.2, sem_eq_zero_of_no_sems (by decide) r.2⟩) (Cert.ReferenceIdeal.Value.run m ρ)

/-- The retention kernel and its reference compute the same two results. -/
theorem alg : Cert.algebraic_KernelIdeal_ReferenceIdeal (hKernelIdeal := Cert.KernelIdeal.Gen.facts) (hReferenceIdeal := Cert.ReferenceIdeal.Gen.facts) :=
  fun m ρ m' ρ' _ hag => ⟨fun c => Cert.KernelIdeal.Value.G9 m c, fun c => Cert.KernelIdeal.Value.G10 m c, Cert.KernelIdeal.Value.run m ρ,
    (θ_run _ _ _).mono (fun _ h c => ⟨(h c).1.trans (Cert.Ret.out_eq m' c m c (hag c).1 (hag c).2.1 (hag c).2.2),
      (h c).2.1.trans (Cert.Ret.state_eq m' c m c (hag c).1 (hag c).2.1), (h c).2.2⟩) (Cert.ReferenceIdeal.Value.run m' ρ')⟩

/-- The projections' reference terminates, keeps its arguments and leaves its counters at zero. -/
theorem frame_ref2 : Cert.quiescent_Reference2Ideal (hReference2Ideal := Cert.Reference2Ideal.Gen.facts) :=
  fun m ρ _ => (θ_run _ _ _).mono (fun r h => ⟨fun c => (h c).2.2.2.2.2.2.2.2.2.2.2.2, sem_eq_zero_of_no_sems (by decide) r.2⟩) (Cert.Reference2Ideal.Value.run m ρ)
/-- The output projection's reference likewise. -/
theorem frame_ref3 : Cert.quiescent_Reference3Ideal (hReference3Ideal := Cert.Reference3Ideal.Gen.facts) :=
  fun m ρ _ => (θ_run _ _ _).mono (fun r h => ⟨fun c => (h c).2, sem_eq_zero_of_no_sems (by decide) r.2⟩) (Cert.Reference3Ideal.Value.run m ρ)

/-- The input projections' kernel and reference compute the same twelve results. -/
theorem alg2 : Cert.algebraic_Kernel2Ideal_Reference2Ideal (hKernel2Ideal := Cert.Kernel2Ideal.Gen.facts) (hReference2Ideal := Cert.Reference2Ideal.Gen.facts) :=
  fun m ρ m' ρ' _ hag => ⟨fun c => Cert.Prj.In.a4 m c, fun c => Cert.Prj.In.a5 m c, fun c => Cert.Prj.In.a6 m c, fun c => Cert.Prj.In.a7 m c, fun c => Cert.Prj.In.a8 m c, fun c => Cert.Prj.In.a9 m c, fun c => Cert.Prj.In.a10 m c, fun c => Cert.Prj.In.a11 m c, fun c => Cert.Prj.In.a12 m c, fun c => Cert.Prj.In.a13 m c, fun c => Cert.Prj.In.a14 m c, fun c => Cert.Prj.In.a15 m c,
    (θ_run _ _ _).mono (fun _ h c => ⟨(h c).1.trans (Cert.Prj.In.f4 m c), (h c).2.1.trans (Cert.Prj.In.f5 m c), (h c).2.2.1.trans (Cert.Prj.In.f6 m c), (h c).2.2.2.1.trans (Cert.Prj.In.f7 m c), (h c).2.2.2.2.1.trans (Cert.Prj.In.f8 m c), (h c).2.2.2.2.2.1.trans (Cert.Prj.In.f9 m c), (h c).2.2.2.2.2.2.1.trans (Cert.Prj.In.f10 m c), (h c).2.2.2.2.2.2.2.1.trans (Cert.Prj.In.f11 m c), (h c).2.2.2.2.2.2.2.2.1.trans (Cert.Prj.In.f12 m c), (h c).2.2.2.2.2.2.2.2.2.1.trans (Cert.Prj.In.f13 m c), (h c).2.2.2.2.2.2.2.2.2.2.1.trans (Cert.Prj.In.f14 m c), (h c).2.2.2.2.2.2.2.2.2.2.2.1.trans (Cert.Prj.In.f15 m c), (h c).2.2.2.2.2.2.2.2.2.2.2.2⟩) (Cert.Kernel2Ideal.Value.run_blocks m ρ),
    (θ_run _ _ _).mono (fun _ h c => ⟨(h c).1.trans (Cert.Prj.In.e4 m' c m c (hag c).1 (hag c).2.1 (hag c).2.2), (h c).2.1.trans (Cert.Prj.In.e5 m' c m c (hag c).1 (hag c).2.1 (hag c).2.2), (h c).2.2.1.trans (Cert.Prj.In.e6 m' c m c (hag c).1 (hag c).2.1 (hag c).2.2), (h c).2.2.2.1.trans (Cert.Prj.In.e7 m' c m c (hag c).1 (hag c).2.1 (hag c).2.2), (h c).2.2.2.2.1.trans (Cert.Prj.In.e8 m' c m c (hag c).1 (hag c).2.1 (hag c).2.2), (h c).2.2.2.2.2.1.trans (Cert.Prj.In.e9 m' c m c (hag c).1 (hag c).2.1 (hag c).2.2), (h c).2.2.2.2.2.2.1.trans (Cert.Prj.In.e10 m' c m c (hag c).1 (hag c).2.1 (hag c).2.2), (h c).2.2.2.2.2.2.2.1.trans (Cert.Prj.In.e11 m' c m c (hag c).1 (hag c).2.1 (hag c).2.2), (h c).2.2.2.2.2.2.2.2.1.trans (Cert.Prj.In.e12 m' c m c (hag c).1 (hag c).2.1 (hag c).2.2), (h c).2.2.2.2.2.2.2.2.2.1.trans (Cert.Prj.In.e13 m' c m c (hag c).1 (hag c).2.1 (hag c).2.2), (h c).2.2.2.2.2.2.2.2.2.2.1.trans (Cert.Prj.In.e14 m' c m c (hag c).1 (hag c).2.1 (hag c).2.2), (h c).2.2.2.2.2.2.2.2.2.2.2.1.trans (Cert.Prj.In.e15 m' c m c (hag c).1 (hag c).2.1 (hag c).2.2), (h c).2.2.2.2.2.2.2.2.2.2.2.2⟩) (Cert.Reference2Ideal.Value.run m' ρ')⟩

/-- The output projection's kernel and reference compute the same result. -/
theorem alg3 : Cert.algebraic_Kernel3Ideal_Reference3Ideal (hKernel3Ideal := Cert.Kernel3Ideal.Gen.facts) (hReference3Ideal := Cert.Reference3Ideal.Gen.facts) :=
  fun m ρ m' ρ' _ hag => ⟨fun c => Cert.Prj.outA m c,
    (θ_run _ _ _).mono (fun _ h c => ⟨(h c).1.trans (Cert.Prj.finalO m c), (h c).2⟩) (Cert.Kernel3Ideal.Value.run_blocks m ρ),
    (θ_run _ _ _).mono (fun _ h c => ⟨(h c).1.trans (Cert.Prj.out3_eq m' c m c (hag c).1 (hag c).2.1 (hag c).2.2.1 (hag c).2.2.2.1 (hag c).2.2.2.2.1 (hag c).2.2.2.2.2), (h c).2⟩)
      (Cert.Reference3Ideal.Value.run m' ρ')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  fun m ρ _ => Cert.Kernel.Gen.frame m ρ, fun m ρ _ => Cert.KernelIdeal.Gen.frame m ρ, frame_ref,
  fun m ρ _ => Cert.Kernel2.Gen.frame m ρ, fun m ρ _ => Cert.Kernel2Ideal.Gen.frame m ρ, frame_ref2,
  fun m ρ _ => Cert.Kernel3.Gen.frame m ρ, fun m ρ _ => Cert.Kernel3Ideal.Gen.frame m ρ, frame_ref3,
  trivial, alg, trivial, alg2, trivial, alg3⟩

end Cert.Proof

end
